-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "neg_log2e" .f32 0xBFB8AA3B#32 ((-((Real.log 2)⁻¹) : ℝ) : EReal)
  ∧ IdealRules.named_const.Statement Cert.KernelIdeal.κ "edge_tap" .f32 0x3F496DFE#32 ((27035430751 / 34359738368 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def holds_KernelIdeal_near [hKernelIdeal : Cert.KernelIdeal.Facts] [hPost_near : Cert.Post_near.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ (Cert.Post_near.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (r.2.mem ((c.tc : Thread Cert.KernelIdeal.nD Cert.KernelIdeal.τ).loc Cert.KernelIdeal.main_v0))) = (fun _ => 1#1))

def Claim : Prop :=
  ∃ (hKernel : Cert.Kernel.Facts) (hKernelIdeal : Cert.KernelIdeal.Facts) (hReferenceIdeal : Cert.ReferenceIdeal.Facts) (hPre_finite : Cert.Pre_finite.Facts) (hPost_near : Cert.Post_near.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
    ∧ holds_KernelIdeal_near (hKernelIdeal := hKernelIdeal) (hPost_near := hPost_near)
-- ==== Post_near.lean ====
abbrev S64x8192x50 : Shape := ⟨3, ![64, 8192, 50]⟩
abbrev S64x8192 : Shape := ⟨2, ![64, 8192]⟩
abbrev S_ : Shape := ⟨0, ![]⟩
abbrev S64x8192x1 : Shape := ⟨3, ![64, 8192, 1]⟩
abbrev S1x1x50 : Shape := ⟨3, ![1, 1, 50]⟩
abbrev S64x8192x2 : Shape := ⟨3, ![64, 8192, 2]⟩
abbrev S64x8192x52 : Shape := ⟨3, ![64, 8192, 52]⟩
abbrev S64x8192x54 : Shape := ⟨3, ![64, 8192, 54]⟩

class Facts : Prop where
  bcast_S_S64x8192 : S_.BroadcastsInDim S64x8192 (![] : Fin 0 → Fin S64x8192.rank)
  bcast_S64x8192_S64x8192x1_0_1 : S64x8192.BroadcastsInDim S64x8192x1 (![0, 1] : Fin 2 → Fin S64x8192x1.rank)
  bcast_S64x8192x1_S64x8192x50_0_1_2 : S64x8192x1.BroadcastsInDim S64x8192x50 (![0, 1, 2] : Fin 3 → Fin S64x8192x50.rank)
  bcast_S1x1x50_S64x8192x50_0_1_2 : S1x1x50.BroadcastsInDim S64x8192x50 (![0, 1, 2] : Fin 3 → Fin S64x8192x50.rank)
  bcast_S_S64x8192x50 : S_.BroadcastsInDim S64x8192x50 (![] : Fin 0 → Fin S64x8192x50.rank)
  slices_S64x8192x50_S64x8192x1_0_0_0 : S64x8192x50.Slices ![0, 0, 0] S64x8192x1
  slices_S64x8192x50_S64x8192x2_0_0_1 : S64x8192x50.Slices ![0, 0, 1] S64x8192x2
  concatenates_S64x8192x2_S64x8192x50_S64x8192x52_d2 : Shape.Concatenates [S64x8192x2, S64x8192x50] S64x8192x52 2
  slices_S64x8192x52_S64x8192x1_0_0_51 : S64x8192x52.Slices ![0, 0, 51] S64x8192x1
  slices_S64x8192x52_S64x8192x2_0_0_49 : S64x8192x52.Slices ![0, 0, 49] S64x8192x2
  concatenates_S64x8192x52_S64x8192x2_S64x8192x54_d2 : Shape.Concatenates [S64x8192x52, S64x8192x2] S64x8192x54 2
  slices_S64x8192x54_S64x8192x50_0_0_0 : S64x8192x54.Slices ![0, 0, 0] S64x8192x50
  slices_S64x8192x54_S64x8192x50_0_0_1 : S64x8192x54.Slices ![0, 0, 1] S64x8192x50
  slices_S64x8192x54_S64x8192x50_0_0_2 : S64x8192x54.Slices ![0, 0, 2] S64x8192x50
  slices_S64x8192x54_S64x8192x50_0_0_3 : S64x8192x54.Slices ![0, 0, 3] S64x8192x50
  slices_S64x8192x54_S64x8192x50_0_0_4 : S64x8192x54.Slices ![0, 0, 4] S64x8192x50
  reducesTo_S64x8192x50_S_d0_1_2 : S64x8192x50.ReducesTo [0, 1, 2] S_
  h_S_ : 0 < S_.numel

variable [Facts]

def fn_clip {F : FTy → Type} [FloatOps F] (arg0 : IVec S64x8192 32) (arg1 : IVec S_ 32) (arg2 : IVec S_ 32) : IVec S64x8192 32 :=
  let v0 : IVec S_ 32 := id arg1
  let v1 : IVec S64x8192 32 := broadcastInDim S64x8192 ![] bcast_S_S64x8192 v0
  let v2 : IVec S64x8192 32 := maxsi v1 arg0
  let v3 : IVec S_ 32 := id arg2
  let v4 : IVec S64x8192 32 := broadcastInDim S64x8192 ![] bcast_S_S64x8192 v3
  let v5 : IVec S64x8192 32 := minsi v4 v2
  v5

def fn_one_hot {F : FTy → Type} [FloatOps F] (arg0 : IVec S64x8192 32) : FVec F S64x8192x50 .f32 :=
  let v0 : IVec S64x8192x1 32 := broadcastInDim S64x8192x1 ![0, 1] bcast_S64x8192_S64x8192x1_0_1 arg0
  let v1 : IVec S1x1x50 32 := iotaInDim S1x1x50 32 2
  let v2 : IVec S64x8192x50 32 := broadcastInDim S64x8192x50 ![0, 1, 2] bcast_S64x8192x1_S64x8192x50_0_1_2 v0
  let v3 : IVec S64x8192x50 32 := broadcastInDim S64x8192x50 ![0, 1, 2] bcast_S1x1x50_S64x8192x50_0_1_2 v1
  let v4 : IVec S64x8192x50 1 := cmpi .eq v2 v3
  let v5 : FVec F S64x8192x50 .f32 := uitofp .f32 v4
  v5

def fn_where {F : FTy → Type} [FloatOps F] (arg0 : IVec S64x8192x1 1) (arg1 : FVec F S64x8192x50 .f32) (arg2 : FVec F S_ .f32) : FVec F S64x8192x50 .f32 :=
  let v0 : FVec F S_ .f32 := id arg2
  let v1 : IVec S64x8192x50 1 := broadcastInDim S64x8192x50 ![0, 1, 2] bcast_S64x8192x1_S64x8192x50_0_1_2 arg0
  let v2 : FVec F S64x8192x50 .f32 := broadcastInDim S64x8192x50 ![] bcast_S_S64x8192x50 v0
  let v3 : FVec F S64x8192x50 .f32 := select v1 arg1 v2
  v3

def fn_flip {F : FTy → Type} [FloatOps F] (arg0 : FVec F S64x8192x2 .f32) : FVec F S64x8192x2 .f32 :=
  let v0 : FVec F S64x8192x2 .f32 := Host.reverse [2] arg0
  v0

def fn_pad {F : FTy → Type} [FloatOps F] (arg0 : FVec F S64x8192x50 .f32) (arg1 : IVec S_ 32) : FVec F S64x8192x54 .f32 :=
  let v0 : FVec F S64x8192x1 .f32 := (extractStridedSlice S64x8192x1 ![0, 0, 0] · slices_S64x8192x50_S64x8192x1_0_0_0) arg0
  let v1 : FVec F S64x8192x2 .f32 := (extractStridedSlice S64x8192x2 ![0, 0, 1] · slices_S64x8192x50_S64x8192x2_0_0_1) arg0
  let v2 : FVec F S64x8192x2 .f32 := fn_flip (F := F) v1
  let v3 : FVec F S64x8192x52 .f32 := (fun a b => concatenate S64x8192x52 2 [⟨S64x8192x2, a⟩, ⟨S64x8192x50, b⟩] concatenates_S64x8192x2_S64x8192x50_S64x8192x52_d2) v2 arg0
  let v4 : FVec F S64x8192x1 .f32 := (extractStridedSlice S64x8192x1 ![0, 0, 51] · slices_S64x8192x52_S64x8192x1_0_0_51) v3
  let v5 : FVec F S64x8192x2 .f32 := (extractStridedSlice S64x8192x2 ![0, 0, 49] · slices_S64x8192x52_S64x8192x2_0_0_49) v3
  let v6 : FVec F S64x8192x2 .f32 := fn_flip (F := F) v5
  let v7 : FVec F S64x8192x54 .f32 := (fun a b => concatenate S64x8192x54 2 [⟨S64x8192x52, a⟩, ⟨S64x8192x2, b⟩] concatenates_S64x8192x52_S64x8192x2_S64x8192x54_d2) v3 v6
  v7

def fn_part3 {F : FTy → Type} [FloatOps F] (main_arg2 : FVec F S_ .f32) (main_v38 : FVec F S64x8192x50 .f32) (main_v49 : FVec F S_ .f32) (main_v52 : FVec F S64x8192x50 .f32) (main_cst_16 : FVec F S_ .f32) : IVec S_ 1 :=
  let main_v53 : FVec F S64x8192x50 .f32 := broadcastInDim S64x8192x50 ![] bcast_S_S64x8192x50 main_cst_16
  let main_v54 : FVec F S64x8192x50 .f32 := addf main_v53 main_v52
  let main_v55 : FVec F S64x8192x50 .f32 := mulf main_v38 main_v54
  let main_cst_17 : FVec F S_ .f32 := constant S_ .f32 0x00000000#32
  let main_v56 : FVec F S_ .f32 := (fun x v => Host.reduceAdd x v reducesTo_S64x8192x50_S_d0_1_2 h_S_) main_v55 main_cst_17
  let main_v57 : FVec F S_ .f32 := subf main_arg2 main_v49
  let main_v58 : FVec F S_ .f32 := Host.absf main_v57
  let main_v59 : IVec S_ 1 := cmpf .ole main_v58 main_v56
  main_v59

def fn_part2 {F : FTy → Type} [FloatOps F] (main_arg0 : FVec F S64x8192x50 .f32) (main_arg2 : FVec F S_ .f32) (main_v9 : IVec S64x8192x1 1) (main_v34 : FVec F S64x8192x50 .f32) : IVec S_ 1 :=
  let main_cst_11 : FVec F S_ .f32 := constant S_ .f32 0xBF800000#32
  let main_v35 : FVec F S64x8192x50 .f32 := fn_where (F := F) main_v9 main_v34 main_cst_11
  let main_cst_12 : FVec F S_ .f32 := constant S_ .f32 0xBF800000#32
  let main_v36 : FVec F S64x8192x50 .f32 := broadcastInDim S64x8192x50 ![] bcast_S_S64x8192x50 main_cst_12
  let main_v37 : IVec S64x8192x50 1 := cmpf .une main_v35 main_v36
  let main_v38 : FVec F S64x8192x50 .f32 := uitofp .f32 main_v37
  let main_cst_13 : FVec F S_ .f32 := constant S_ .f32 0x00000000#32
  let main_v39 : FVec F S64x8192x50 .f32 := broadcastInDim S64x8192x50 ![] bcast_S_S64x8192x50 main_cst_13
  let main_v40 : FVec F S64x8192x50 .f32 := maximumf main_arg0 main_v39
  let main_v41 : FVec F S64x8192x50 .f32 := mulf main_arg0 main_v35
  let main_v42 : FVec F S64x8192x50 .f32 := subf main_v40 main_v41
  let main_v43 : FVec F S64x8192x50 .f32 := Host.absf main_arg0
  let main_v44 : FVec F S64x8192x50 .f32 := Host.negf main_v43
  let main_v45 : FVec F S64x8192x50 .f32 := Host.exp main_v44
  let main_v46 : FVec F S64x8192x50 .f32 := Host.log1p main_v45
  let main_v47 : FVec F S64x8192x50 .f32 := addf main_v42 main_v46
  let main_v48 : FVec F S64x8192x50 .f32 := mulf main_v38 main_v47
  let main_cst_14 : FVec F S_ .f32 := constant S_ .f32 0x00000000#32
  let main_v49 : FVec F S_ .f32 := (fun x v => Host.reduceAdd x v reducesTo_S64x8192x50_S_d0_1_2 h_S_) main_v48 main_cst_14
  let main_v50 : FVec F S64x8192x50 .f32 := Host.absf main_arg0
  let main_cst_15 : FVec F S_ .f32 := constant S_ .f32 0x3A0AEFB3#32
  let main_v51 : FVec F S64x8192x50 .f32 := broadcastInDim S64x8192x50 ![] bcast_S_S64x8192x50 main_cst_15
  let main_v52 : FVec F S64x8192x50 .f32 := mulf main_v51 main_v50
  let main_cst_16 : FVec F S_ .f32 := constant S_ .f32 0x391D4952#32
  fn_part3 (F := F) main_arg2 main_v38 main_v49 main_v52 main_cst_16

def fn_part1 {F : FTy → Type} [FloatOps F] (main_arg0 : FVec F S64x8192x50 .f32) (main_arg2 : FVec F S_ .f32) (main_v9 : IVec S64x8192x1 1) (main_v13 : FVec F S64x8192x54 .f32) (main_v14 : FVec F S64x8192x50 .f32) (main_v15 : FVec F S64x8192x50 .f32) : IVec S_ 1 :=
  let main_cst_6 : FVec F S_ .f32 := constant S_ .f32 0x398A575F#32
  let main_v16 : FVec F S64x8192x50 .f32 := broadcastInDim S64x8192x50 ![] bcast_S_S64x8192x50 main_cst_6
  let main_v17 : FVec F S64x8192x50 .f32 := mulf main_v16 main_v15
  let main_v18 : FVec F S64x8192x50 .f32 := addf main_v14 main_v17
  let main_v19 : FVec F S64x8192x50 .f32 := (extractStridedSlice S64x8192x50 ![0, 0, 1] · slices_S64x8192x54_S64x8192x50_0_0_1) main_v13
  let main_cst_7 : FVec F S_ .f32 := constant S_ .f32 0x3DDA02DD#32
  let main_v20 : FVec F S64x8192x50 .f32 := broadcastInDim S64x8192x50 ![] bcast_S_S64x8192x50 main_cst_7
  let main_v21 : FVec F S64x8192x50 .f32 := mulf main_v20 main_v19
  let main_v22 : FVec F S64x8192x50 .f32 := addf main_v18 main_v21
  let main_v23 : FVec F S64x8192x50 .f32 := (extractStridedSlice S64x8192x50 ![0, 0, 2] · slices_S64x8192x54_S64x8192x50_0_0_2) main_v13
  let main_cst_8 : FVec F S_ .f32 := constant S_ .f32 0x3F495CB3#32
  let main_v24 : FVec F S64x8192x50 .f32 := broadcastInDim S64x8192x50 ![] bcast_S_S64x8192x50 main_cst_8
  let main_v25 : FVec F S64x8192x50 .f32 := mulf main_v24 main_v23
  let main_v26 : FVec F S64x8192x50 .f32 := addf main_v22 main_v25
  let main_v27 : FVec F S64x8192x50 .f32 := (extractStridedSlice S64x8192x50 ![0, 0, 3] · slices_S64x8192x54_S64x8192x50_0_0_3) main_v13
  let main_cst_9 : FVec F S_ .f32 := constant S_ .f32 0x3DDA02DD#32
  let main_v28 : FVec F S64x8192x50 .f32 := broadcastInDim S64x8192x50 ![] bcast_S_S64x8192x50 main_cst_9
  let main_v29 : FVec F S64x8192x50 .f32 := mulf main_v28 main_v27
  let main_v30 : FVec F S64x8192x50 .f32 := addf main_v26 main_v29
  let main_v31 : FVec F S64x8192x50 .f32 := (extractStridedSlice S64x8192x50 ![0, 0, 4] · slices_S64x8192x54_S64x8192x50_0_0_4) main_v13
  let main_cst_10 : FVec F S_ .f32 := constant S_ .f32 0x398A575F#32
  let main_v32 : FVec F S64x8192x50 .f32 := broadcastInDim S64x8192x50 ![] bcast_S_S64x8192x50 main_cst_10
  let main_v33 : FVec F S64x8192x50 .f32 := mulf main_v32 main_v31
  let main_v34 : FVec F S64x8192x50 .f32 := addf main_v30 main_v33
  fn_part2 (F := F) main_arg0 main_arg2 main_v9 main_v34

def fn {F : FTy → Type} [FloatOps F] (main_arg0 : FVec F S64x8192x50 .f32) (main_arg1 : FVec F S64x8192 .f32) (main_arg2 : FVec F S_ .f32) : IVec S_ 1 :=
  let main_cst : FVec F S_ .f32 := constant S_ .f32 0x00000000#32
  let main_v0 : FVec F S64x8192 .f32 := broadcastInDim S64x8192 ![] bcast_S_S64x8192 main_cst
  let main_v1 : FVec F S64x8192 .f32 := subf main_arg1 main_v0
  let main_cst_0 : FVec F S_ .f32 := constant S_ .f32 0x42480000#32
  let main_v2 : FVec F S64x8192 .f32 := broadcastInDim S64x8192 ![] bcast_S_S64x8192 main_cst_0
  let main_v3 : FVec F S64x8192 .f32 := mulf main_v1 main_v2
  let main_v4 : FVec F S64x8192 .f32 := Host.floor main_v3
  let main_v5 : IVec S64x8192 32 := fptosi 32 main_v4
  let main_c : IVec S_ 32 := constantI S_ 32 0#32
  let main_c_1 : IVec S_ 32 := constantI S_ 32 49#32
  let main_v6 : IVec S64x8192 32 := fn_clip (F := F) main_v5 main_c main_c_1
  let main_cst_2 : FVec F S_ .f32 := constant S_ .f32 0xBF800000#32
  let main_v7 : FVec F S64x8192 .f32 := broadcastInDim S64x8192 ![] bcast_S_S64x8192 main_cst_2
  let main_v8 : IVec S64x8192 1 := cmpf .une main_arg1 main_v7
  let main_v9 : IVec S64x8192x1 1 := broadcastInDim S64x8192x1 ![0, 1] bcast_S64x8192_S64x8192x1_0_1 main_v8
  let main_v10 : FVec F S64x8192x50 .f32 := fn_one_hot (F := F) main_v6
  let main_v11 : IVec S64x8192x1 1 := broadcastInDim S64x8192x1 ![0, 1] bcast_S64x8192_S64x8192x1_0_1 main_v8
  let main_cst_3 : FVec F S_ .f32 := constant S_ .f32 0x00000000#32
  let main_v12 : FVec F S64x8192x50 .f32 := fn_where (F := F) main_v11 main_v10 main_cst_3
  let main_c_4 : IVec S_ 32 := constantI S_ 32 0#32
  let main_v13 : FVec F S64x8192x54 .f32 := fn_pad (F := F) main_v12 main_c_4
  let main_cst_5 : FVec F S_ .f32 := constant S_ .f32 0x00000000#32
  let main_v14 : FVec F S64x8192x50 .f32 := broadcastInDim S64x8192x50 ![] bcast_S_S64x8192x50 main_cst_5
  let main_v15 : FVec F S64x8192x50 .f32 := (extractStridedSlice S64x8192x50 ![0, 0, 0] · slices_S64x8192x54_S64x8192x50_0_0_0) main_v13
  fn_part1 (F := F) main_arg0 main_arg2 main_v9 main_v13 main_v14 main_v15
-- ==== Pre_finite.lean ====
abbrev S64x8192x50 : Shape := ⟨3, ![64, 8192, 50]⟩
abbrev S64x8192 : Shape := ⟨2, ![64, 8192]⟩
abbrev S_ : Shape := ⟨0, ![]⟩

class Facts : Prop where
  bcast_S_S64x8192x50 : S_.BroadcastsInDim S64x8192x50 (![] : Fin 0 → Fin S64x8192x50.rank)

variable [Facts]

def fn {F : FTy → Type} [FloatOps F] (main_arg0 : FVec F S64x8192x50 .f32) (main_arg1 : FVec F S64x8192 .f32) : IVec S64x8192x50 1 :=
  let main_v0 : FVec F S64x8192x50 .f32 := Host.absf main_arg0
  let main_cst : FVec F S_ .f32 := constant S_ .f32 0x7F800000#32
  let main_v1 : FVec F S64x8192x50 .f32 := broadcastInDim S64x8192x50 ![] bcast_S_S64x8192x50 main_cst
  let main_v2 : IVec S64x8192x50 1 := cmpf .olt main_v0 main_v1
  main_v2
-- ==== Kernel.lean ====
abbrev S64x8192x50 : Shape := ⟨3, ![64, 8192, 50]⟩
abbrev S64x8192 : Shape := ⟨2, ![64, 8192]⟩
abbrev S50x64x8192 : Shape := ⟨3, ![50, 64, 8192]⟩
abbrev S1x1 : Shape := ⟨2, ![1, 1]⟩
abbrev S_ : Shape := ⟨0, ![]⟩
abbrev S50x8x4096 : Shape := ⟨3, ![50, 8, 4096]⟩
abbrev S8x4096 : Shape := ⟨2, ![8, 4096]⟩
abbrev S8x512 : Shape := ⟨2, ![8, 512]⟩
abbrev S1x8x512 : Shape := ⟨3, ![1, 8, 512]⟩
abbrev S1 : Shape := ⟨1, ![1]⟩
abbrev S1x1x1 : Shape := ⟨3, ![1, 1, 1]⟩

abbrev nBuf : Space → Nat
  | .hbm => 5
  | .vmem => 5
  | .smem => 0
  | _ => 0

abbrev bufTy : (tb : Table) → Fin (tcTables nBuf tb) → BufTy
  | .hbm, ⟨0, _⟩ => ⟨S64x8192x50, .f32⟩
  | .hbm, ⟨1, _⟩ => ⟨S64x8192, .f32⟩
  | .hbm, ⟨2, _⟩ => ⟨S50x64x8192, .f32⟩
  | .hbm, ⟨3, _⟩ => ⟨S1x1, .f32⟩
  | .hbm, ⟨4, _⟩ => ⟨S_, .f32⟩
  | .local _ .vmem, ⟨0, _⟩ => ⟨S50x8x4096, .f32⟩
  | .local _ .vmem, ⟨1, _⟩ => ⟨S50x8x4096, .f32⟩
  | .local _ .vmem, ⟨2, _⟩ => ⟨S8x4096, .f32⟩
  | .local _ .vmem, ⟨3, _⟩ => ⟨S8x4096, .f32⟩
  | .local _ .vmem, ⟨4, _⟩ => ⟨S1x1, .f32⟩
  | _, _ => ⟨S64x8192x50, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S50x8x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]
-- ==== KernelIdeal.lean ====
variable {F : FTy → Type} [FloatOps F] [Named F]
def κ : String → Option EReal := fun
  | "edge_tap" => some ((27035430751 / 34359738368 : ℝ) : EReal)
  | "neg_log2e" => some ((-((Real.log 2)⁻¹) : ℝ) : EReal)
  | _ => none
-- ==== ReferenceIdeal.lean ====
abbrev S64x8192x50 : Shape := ⟨3, ![64, 8192, 50]⟩
abbrev S64x8192 : Shape := ⟨2, ![64, 8192]⟩
abbrev S_ : Shape := ⟨0, ![]⟩
abbrev S64x8192x1 : Shape := ⟨3, ![64, 8192, 1]⟩
abbrev S1x1x50 : Shape := ⟨3, ![1, 1, 50]⟩
abbrev S64x8192x2 : Shape := ⟨3, ![64, 8192, 2]⟩
abbrev S64x8192x52 : Shape := ⟨3, ![64, 8192, 52]⟩
abbrev S64x8192x54 : Shape := ⟨3, ![64, 8192, 54]⟩

abbrev nBuf : Space → Nat
  | .hbm => 119
  | .vmem => 0
  | .smem => 0
  | _ => 0

abbrev bufTy : (tb : Table) → Fin (tcTables nBuf tb) → BufTy
  | .hbm, ⟨0, _⟩ => ⟨S64x8192x50, .f32⟩
  | .hbm, ⟨1, _⟩ => ⟨S64x8192, .f32⟩
  | .hbm, ⟨2, _⟩ => ⟨S_, .f32⟩
  | .hbm, ⟨3, _⟩ => ⟨S64x8192, .f32⟩
  | .hbm, ⟨4, _⟩ => ⟨S64x8192, .f32⟩
  | .hbm, ⟨5, _⟩ => ⟨S_, .f32⟩
  | .hbm, ⟨6, _⟩ => ⟨S64x8192, .f32⟩
  | .hbm, ⟨7, _⟩ => ⟨S64x8192, .f32⟩
  | .hbm, ⟨8, _⟩ => ⟨S64x8192, .f32⟩
  | .hbm, ⟨9, _⟩ => ⟨S64x8192, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S64x8192, .i32⟩
  | .hbm, ⟨14, _⟩ => ⟨S64x8192, .i32⟩
  | .hbm, ⟨15, _⟩ => ⟨S_, .i32⟩
  | .hbm, ⟨16, _⟩ => ⟨S64x8192, .i32⟩
  | .hbm, ⟨17, _⟩ => ⟨S64x8192, .i32⟩
  | .hbm, ⟨18, _⟩ => ⟨S_, .f32⟩
  | .hbm, ⟨19, _⟩ => ⟨S64x8192, .f32⟩
  | .hbm, ⟨20, _⟩ => ⟨S64x8192, .i1⟩
  | .hbm, ⟨21, _⟩ => ⟨S64x8192x1, .i32⟩
  | .hbm, ⟨22, _⟩ => ⟨S1x1x50, .i32⟩
  | .hbm, ⟨23, _⟩ => ⟨S64x8192x50, .i32⟩
  | .hbm, ⟨24, _⟩ => ⟨S64x8192x50, .i32⟩
  | .hbm, ⟨25, _⟩ => ⟨S64x8192x50, .i1⟩
  | .hbm, ⟨26, _⟩ => ⟨S64x8192x50, .f32⟩
  | .hbm, ⟨27, _⟩ => ⟨S64x8192x1, .i1⟩
  | .hbm, ⟨28, _⟩ => ⟨S_, .f32⟩
  | .hbm, ⟨29, _⟩ => ⟨S_, .f32⟩
  | .hbm, ⟨30, _⟩ => ⟨S64x8192x50, .i1⟩
  | .hbm, ⟨31, _⟩ => ⟨S64x8192x50, .f32⟩
  | .hbm, ⟨32, _⟩ => ⟨S64x8192x50, .f32⟩
  | .hbm, ⟨33, _⟩ => ⟨S_, .i32⟩
  | .hbm, ⟨34, _⟩ => ⟨S64x8192x1, .f32⟩
  | .hbm, ⟨35, _⟩ => ⟨S64x8192x2, .f32⟩
  | .hbm, ⟨36, _⟩ => ⟨S64x8192x2, .f32⟩
  | .hbm, ⟨37, _⟩ => ⟨S64x8192x52, .f32⟩
  | .hbm, ⟨38, _⟩ => ⟨S64x8192x1, .f32⟩
  | .hbm, ⟨39, _⟩ => ⟨S64x8192x2, .f32⟩
  | .hbm, ⟨40, _⟩ => ⟨S64x8192x2, .f32⟩
  | .hbm, ⟨41, _⟩ => ⟨S64x8192x54, .f32⟩
  | .hbm, ⟨42, _⟩ => ⟨S_, .f32⟩
  | .hbm, ⟨43, _⟩ => ⟨S64x8192x50, .f32⟩
  | .hbm, ⟨44, _⟩ => ⟨S64x8192x50, .f32⟩
  | .hbm, ⟨45, _⟩ => ⟨S_, .f32⟩
  | .hbm, ⟨46, _⟩ => ⟨S64x8192x50, .f32⟩
  | .hbm, ⟨47, _⟩ => ⟨S64x8192x50, .f32⟩
  | .hbm, ⟨48, _⟩ => ⟨S64x8192x50, .f32⟩
  | .hbm, ⟨49, _⟩ => ⟨S64x8192x50, .f32⟩
  | .hbm, ⟨50, _⟩ => ⟨S_, .f32⟩
  | .hbm, ⟨51, _⟩ => ⟨S64x8192x50, .f32⟩
  | .hbm, ⟨52, _⟩ => ⟨S64x8192x50, .f32⟩
  | .hbm, ⟨53, _⟩ => ⟨S64x8192x50, .f32⟩
  | .hbm, ⟨54, _⟩ => ⟨S64x8192x50, .f32⟩
  | .hbm, ⟨55, _⟩ => ⟨S_, .f32⟩
  | .hbm, ⟨56, _⟩ => ⟨S64x8192x50, .f32⟩
  | .hbm, ⟨57, _⟩ => ⟨S64x8192x50, .f32⟩
  | .hbm, ⟨58, _⟩ => ⟨S64x8192x50, .f32⟩
  | .hbm, ⟨59, _⟩ => ⟨S64x8192x50, .f32⟩
  | .hbm, ⟨60, _⟩ => ⟨S_, .f32⟩
  | .hbm, ⟨61, _⟩ => ⟨S64x8192x50, .f32⟩
  | .hbm, ⟨62, _⟩ => ⟨S64x8192x50, .f32⟩
  | .hbm, ⟨63, _⟩ => ⟨S64x8192x50, .f32⟩
  | .hbm, ⟨64, _⟩ => ⟨S64x8192x50, .f32⟩
  | .hbm, ⟨65, _⟩ => ⟨S_, .f32⟩
  | .hbm, ⟨66, _⟩ => ⟨S64x8192x50, .f32⟩
  | .hbm, ⟨67, _⟩ => ⟨S64x8192x50, .f32⟩
  | .hbm, ⟨68, _⟩ => ⟨S64x8192x50, .f32⟩
  | .hbm, ⟨69, _⟩ => ⟨S_, .f32⟩
  | .hbm, ⟨70, _⟩ => ⟨S64x8192x50, .f32⟩
  | .hbm, ⟨71, _⟩ => ⟨S64x8192x50, .i1⟩
  | .hbm, ⟨72, _⟩ => ⟨S_, .f32⟩
  | .hbm, ⟨73, _⟩ => ⟨S_, .f32⟩
  | .hbm, ⟨74, _⟩ => ⟨S64x8192x50, .f32⟩
  | .hbm, ⟨75, _⟩ => ⟨S64x8192x50, .f32⟩
  | .hbm, ⟨76, _⟩ => ⟨S64x8192x1, .i1⟩
  | .hbm, ⟨77, _⟩ => ⟨S_, .f32⟩
  | .hbm, ⟨78, _⟩ => ⟨S_, .f32⟩
  | .hbm, ⟨79, _⟩ => ⟨S64x8192x50, .i1⟩
  | .hbm, ⟨80, _⟩ => ⟨S64x8192x50, .f32⟩
  | .hbm, ⟨81, _⟩ => ⟨S64x8192x50, .f32⟩
  | .hbm, ⟨82, _⟩ => ⟨S_, .f32⟩
  | .hbm, ⟨83, _⟩ => ⟨S64x8192x50, .f32⟩
  | .hbm, ⟨84, _⟩ => ⟨S64x8192x50, .i1⟩
  | .hbm, ⟨85, _⟩ => ⟨S64x8192x50, .f32⟩
  | .hbm, ⟨86, _⟩ => ⟨S64x8192x50, .f32⟩
  | .hbm, ⟨87, _⟩ => ⟨S64x8192x50, .f32⟩
  | .hbm, ⟨88, _⟩ => ⟨S64x8192x50, .f32⟩
  | .hbm, ⟨89, _⟩ => ⟨S_, .f32⟩
  | .hbm, ⟨90, _⟩ => ⟨S64x8192x50, .f32⟩
  | .hbm, ⟨91, _⟩ => ⟨S64x8192x50, .f32⟩
  | .hbm, ⟨92, _⟩ => ⟨S64x8192x50, .f32⟩
  | .hbm, ⟨93, _⟩ => ⟨S_, .f32⟩
  | .hbm, ⟨94, _⟩ => ⟨S64x8192x50, .f32⟩
  | .hbm, ⟨95, _⟩ => ⟨S64x8192x50, .f32⟩
  | .hbm, ⟨96, _⟩ => ⟨S64x8192x50, .f32⟩
  | .hbm, ⟨97, _⟩ => ⟨S64x8192x50, .f32⟩
  | .hbm, ⟨98, _⟩ => ⟨S64x8192x50, .f32⟩
  | .hbm, ⟨99, _⟩ => ⟨S_, .f32⟩
  | .hbm, ⟨100, _⟩ => ⟨S64x8192x50, .f32⟩
  | .hbm, ⟨101, _⟩ => ⟨S64x8192x50, .f32⟩
  | .hbm, ⟨102, _⟩ => ⟨S64x8192x50, .f32⟩
  | .hbm, ⟨103, _⟩ => ⟨S64x8192x50, .f32⟩
  | .hbm, ⟨104, _⟩ => ⟨S64x8192x50, .f32⟩
  | .hbm, ⟨105, _⟩ => ⟨S64x8192x50, .f32⟩
  | .hbm, ⟨106, _⟩ => ⟨S_, .f32⟩
  | .hbm, ⟨107, _⟩ => ⟨S64x8192x50, .f32⟩
  | .hbm, ⟨108, _⟩ => ⟨S64x8192x50, .f32⟩
  | .hbm, ⟨109, _⟩ => ⟨S64x8192x50, .f32⟩
  | .hbm, ⟨110, _⟩ => ⟨S_, .f32⟩
  | .hbm, ⟨111, _⟩ => ⟨S64x8192x50, .f32⟩
  | .hbm, ⟨112, _⟩ => ⟨S64x8192x50, .f32⟩
  | .hbm, ⟨113, _⟩ => ⟨S64x8192x50, .f32⟩
  | .hbm, ⟨114, _⟩ => ⟨S64x8192x50, .f32⟩
  | .hbm, ⟨115, _⟩ => ⟨S64x8192x50, .f32⟩
  | .hbm, ⟨116, _⟩ => ⟨S64x8192x50, .f32⟩
  | .hbm, ⟨117, _⟩ => ⟨S_, .f32⟩
  | .hbm, ⟨118, _⟩ => ⟨S_, .f32⟩
  | _, _ => ⟨S64x8192x50, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_c_1 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_v6 : Ref sig .tc := ⟨.hbm, 17, rfl⟩
abbrev main_cst_2 : Ref sig .tc := ⟨.hbm, 18, rfl⟩
abbrev main_v7 : Ref sig .tc := ⟨.hbm, 19, rfl⟩
abbrev main_v8 : Ref sig .tc := ⟨.hbm, 20, rfl⟩
abbrev main_call1_v0 : Ref sig .tc := ⟨.hbm, 21, rfl⟩
abbrev main_call1_v1 : Ref sig .tc := ⟨.hbm, 22, rfl⟩
abbrev main_call1_v2 : Ref sig .tc := ⟨.hbm, 23, rfl⟩
abbrev main_call1_v3 : Ref sig .tc := ⟨.hbm, 24, rfl⟩
abbrev main_call1_v4 : Ref sig .tc := ⟨.hbm, 25, rfl⟩
abbrev main_v9 : Ref sig .tc := ⟨.hbm, 26, rfl⟩
abbrev main_v10 : Ref sig .tc := ⟨.hbm, 27, rfl⟩
abbrev main_cst_3 : Ref sig .tc := ⟨.hbm, 28, rfl⟩
abbrev main_call2_v0 : Ref sig .tc := ⟨.hbm, 29, rfl⟩
abbrev main_call2_v1 : Ref sig .tc := ⟨.hbm, 30, rfl⟩
abbrev main_call2_v2 : Ref sig .tc := ⟨.hbm, 31, rfl⟩
abbrev main_v11 : Ref sig .tc := ⟨.hbm, 32, rfl⟩
abbrev main_c_4 : Ref sig .tc := ⟨.hbm, 33, rfl⟩
abbrev main_call3_v0 : Ref sig .tc := ⟨.hbm, 34, rfl⟩
abbrev main_call3_v1 : Ref sig .tc := ⟨.hbm, 35, rfl⟩
abbrev main_call3_v2 : Ref sig .tc := ⟨.hbm, 36, rfl⟩
abbrev main_call3_v3 : Ref sig .tc := ⟨.hbm, 37, rfl⟩
abbrev main_call3_v4 : Ref sig .tc := ⟨.hbm, 38, rfl⟩
abbrev main_call3_v5 : Ref sig .tc := ⟨.hbm, 39, rfl⟩
abbrev main_call3_v6 : Ref sig .tc := ⟨.hbm, 40, rfl⟩
abbrev main_v12 : Ref sig .tc := ⟨.hbm, 41, rfl⟩
abbrev main_cst_5 : Ref sig .tc := ⟨.hbm, 42, rfl⟩
abbrev main_v13 : Ref sig .tc := ⟨.hbm, 43, rfl⟩
abbrev main_v14 : Ref sig .tc := ⟨.hbm, 44, rfl⟩
abbrev main_cst_6 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_cst_7 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_cst_8 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_cst_9 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_cst_10 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_cst_11 : Ref sig .tc := ⟨.hbm, 69, rfl⟩
abbrev main_v34 : Ref sig .tc := ⟨.hbm, 70, rfl⟩
abbrev main_v35 : Ref sig .tc := ⟨.hbm, 71, rfl⟩
abbrev main_cst_12 : Ref sig .tc := ⟨.hbm, 72, rfl⟩
abbrev main_call4_v0 : Ref sig .tc := ⟨.hbm, 73, rfl⟩
abbrev main_call4_v1 : Ref sig .tc := ⟨.hbm, 74, rfl⟩
abbrev main_v36 : Ref sig .tc := ⟨.hbm, 75, rfl⟩
abbrev main_v37 : Ref sig .tc := ⟨.hbm, 76, rfl⟩
abbrev main_cst_13 : Ref sig .tc := ⟨.hbm, 77, rfl⟩
abbrev main_call5_v0 : Ref sig .tc := ⟨.hbm, 78, rfl⟩
abbrev main_call5_v1 : Ref sig .tc := ⟨.hbm, 79, rfl⟩
abbrev main_call5_v2 : Ref sig .tc := ⟨.hbm, 80, rfl⟩
abbrev main_v38 : Ref sig .tc := ⟨.hbm, 81, rfl⟩
abbrev main_cst_14 : Ref sig .tc := ⟨.hbm, 82, rfl⟩
abbrev main_v39 : Ref sig .tc := ⟨.hbm, 83, rfl⟩
abbrev main_v40 : Ref sig .tc := ⟨.hbm, 84, rfl⟩
abbrev main_v41 : Ref sig .tc := ⟨.hbm, 85, rfl⟩
abbrev main_v42 : Ref sig .tc := ⟨.hbm, 86, rfl⟩
abbrev main_v43 : Ref sig .tc := ⟨.hbm, 87, rfl⟩
abbrev main_v44 : Ref sig .tc := ⟨.hbm, 88, rfl⟩
abbrev main_cst_15 : Ref sig .tc := ⟨.hbm, 89, rfl⟩
abbrev main_v45 : Ref sig .tc := ⟨.hbm, 90, rfl⟩
abbrev main_v46 : Ref sig .tc := ⟨.hbm, 91, rfl⟩
abbrev main_v47 : Ref sig .tc := ⟨.hbm, 92, rfl⟩
abbrev main_cst_16 : Ref sig .tc := ⟨.hbm, 93, rfl⟩
abbrev main_v48 : Ref sig .tc := ⟨.hbm, 94, rfl⟩
abbrev main_v49 : Ref sig .tc := ⟨.hbm, 95, rfl⟩
abbrev main_v50 : Ref sig .tc := ⟨.hbm, 96, rfl⟩
abbrev main_v51 : Ref sig .tc := ⟨.hbm, 97, rfl⟩
abbrev main_v52 : Ref sig .tc := ⟨.hbm, 98, rfl⟩
abbrev main_cst_17 : Ref sig .tc := ⟨.hbm, 99, rfl⟩
abbrev main_v53 : Ref sig .tc := ⟨.hbm, 100, rfl⟩
abbrev main_v54 : Ref sig .tc := ⟨.hbm, 101, rfl⟩
abbrev main_v55 : Ref sig .tc := ⟨.hbm, 102, rfl⟩
abbrev main_v56 : Ref sig .tc := ⟨.hbm, 103, rfl⟩
abbrev main_v57 : Ref sig .tc := ⟨.hbm, 104, rfl⟩
abbrev main_v58 : Ref sig .tc := ⟨.hbm, 105, rfl⟩
abbrev main_cst_18 : Ref sig .tc := ⟨.hbm, 106, rfl⟩
abbrev main_v59 : Ref sig .tc := ⟨.hbm, 107, rfl⟩
abbrev main_v60 : Ref sig .tc := ⟨.hbm, 108, rfl⟩
abbrev main_v61 : Ref sig .tc := ⟨.hbm, 109, rfl⟩
abbrev main_cst_19 : Ref sig .tc := ⟨.hbm, 110, rfl⟩
abbrev main_v62 : Ref sig .tc := ⟨.hbm, 111, rfl⟩
abbrev main_v63 : Ref sig .tc := ⟨.hbm, 112, rfl⟩
abbrev main_v64 : Ref sig .tc := ⟨.hbm, 113, rfl⟩
abbrev main_v65 : Ref sig .tc := ⟨.hbm, 114, rfl⟩
abbrev main_v66 : Ref sig .tc := ⟨.hbm, 115, rfl⟩
abbrev main_v67 : Ref sig .tc := ⟨.hbm, 116, rfl⟩
abbrev main_cst_20 : Ref sig .tc := ⟨.hbm, 117, rfl⟩
abbrev main_v68 : Ref sig .tc := ⟨.hbm, 118, rfl⟩

abbrev nD : Nat := 1
abbrev τ : Topo := Topo.v7x

variable {F : FTy → Type} [FloatOps F]
-- ==== Proof.LogBound.lean ====
/- How far the kernel's polynomial is from the logarithm it stands for. The logarithm of `1 + u` is enclosed between
   partial sums of the series in `s = u / (2 + u)`, and the polynomial is compared with the partial sums. -/
module

public import Idealize.ShloMosaic.PureOps.Ideal
public import Mathlib.Analysis.SpecialFunctions.Log.Basic
public import Mathlib.Analysis.SpecialFunctions.ExpDeriv
public import Mathlib.Analysis.Calculus.Deriv.MeanValue
public import Mathlib.Tactic.Positivity
public import Mathlib.Tactic.Linarith
public import Mathlib.Tactic.FieldSimp

@[expose] public section

noncomputable section

namespace Cert.Proof

/-- The kernel's polynomial in `u`: its four coefficients are the values of the float constants. -/
def logPoly (u : ℝ) : ℝ :=
  u * (((-(15684709 / 268435456) * u + 7527501 / 33554432) * u + -(15771155 / 33554432)) * u + 522781 / 524288)

/-- The first four terms of the series of `log ((1 + s) / (1 - s))`. -/
def series (s : ℝ) : ℝ := 2 * s + 2 / 3 * s ^ 3 + 2 / 5 * s ^ 5 + 2 / 7 * s ^ 7

/-- A function `(1 + s) / (1 - s) * exp (-S s)` on `[0, 1/3]`, differentiated. -/
theorem hasDerivAt_ratio (S : ℝ → ℝ) (S' s : ℝ) (hS : HasDerivAt S S' s) (hs : s < 1) :
    HasDerivAt (fun x => (1 + x) * (1 - x)⁻¹ * Real.exp (-S x))
      (Real.exp (-S s) * ((1 - s)⁻¹ ^ 2 * (2 - (1 - s ^ 2) * S'))) s := by
  have h1 : (1 : ℝ) - s ≠ 0 := by linarith
  have hnum : HasDerivAt (fun x : ℝ => 1 + x) 1 s := (hasDerivAt_id s).const_add 1
  have hden : HasDerivAt (fun x : ℝ => 1 - x) (-1) s := (hasDerivAt_id s).const_sub 1
  have h := (hnum.mul (hden.inv h1)).mul (hS.neg.exp)
  refine h.congr_deriv ?_
  simp only [Pi.mul_apply, Pi.inv_apply, Pi.neg_apply]
  field_simp
  ring

/-- The derivative of a partial sum with a further term `c s⁹`. -/
theorem hasDerivAt_series (c s : ℝ) :
    HasDerivAt (fun x => series x + c * x ^ 9) (2 + 2 * s ^ 2 + 2 * s ^ 4 + 2 * s ^ 6 + c * (9 * s ^ 8)) s := by
  unfold series
  have h1 := (hasDerivAt_id s).const_mul (2 : ℝ)
  have h3 := (hasDerivAt_pow 3 s).const_mul (2 / 3 : ℝ)
  have h5 := (hasDerivAt_pow 5 s).const_mul (2 / 5 : ℝ)
  have h7 := (hasDerivAt_pow 7 s).const_mul (2 / 7 : ℝ)
  have h9 := (hasDerivAt_pow 9 s).const_mul c
  refine ((((h1.add h3).add h5).add h7).add h9).congr_deriv ?_
  norm_num
  ring

/-- The logarithm lies between the four-term sum and that sum with `s⁹ / 4` added. -/
theorem log_ratio_bounds {s : ℝ} (h0 : 0 ≤ s) (h1 : s ≤ 1 / 3) :
    series s ≤ Real.log ((1 + s) * (1 - s)⁻¹) ∧ Real.log ((1 + s) * (1 - s)⁻¹) ≤ series s + 1 / 4 * s ^ 9 := by
  have hpos : 0 < (1 + s) * (1 - s)⁻¹ := mul_pos (by linarith) (inv_pos.mpr (by linarith))
  have hderiv (c x : ℝ) (hx : x < 1) := hasDerivAt_ratio _ _ x (hasDerivAt_series c x) hx
  have hcont (c : ℝ) : ContinuousOn
      (fun x => (1 + x) * (1 - x)⁻¹ * Real.exp (-(series x + c * x ^ 9))) (Set.Icc 0 (1 / 3)) := fun x hx =>
    (hderiv c x (by linarith [hx.2])).continuousAt.continuousWithinAt
  have hmem : s ∈ Set.Icc (0 : ℝ) (1 / 3) := ⟨h0, h1⟩
  have hzero : (0 : ℝ) ∈ Set.Icc (0 : ℝ) (1 / 3) := ⟨le_rfl, by norm_num⟩
  have hsq (x : ℝ) (hx : x ∈ interior (Set.Icc (0 : ℝ) (1 / 3))) : 0 ≤ x ^ 8 ∧ x ^ 2 ≤ 1 / 9 ∧ x < 1 := by
    rw [interior_Icc] at hx
    exact ⟨by positivity, by nlinarith [hx.1, hx.2], by linarith [hx.2]⟩
  constructor
  · have hm : MonotoneOn (fun x => (1 + x) * (1 - x)⁻¹ * Real.exp (-(series x + 0 * x ^ 9))) (Set.Icc 0 (1 / 3)) := by
      refine monotoneOn_of_deriv_nonneg (convex_Icc _ _) (hcont 0)
        (fun x hx => (hderiv 0 x (hsq x hx).2.2).differentiableAt.differentiableWithinAt) fun x hx => ?_
      rw [(hderiv 0 x (hsq x hx).2.2).deriv]
      obtain ⟨h8, -, -⟩ := hsq x hx
      refine mul_nonneg (Real.exp_pos _).le (mul_nonneg (sq_nonneg _) ?_)
      have : 2 - (1 - x ^ 2) * (2 + 2 * x ^ 2 + 2 * x ^ 4 + 2 * x ^ 6 + 0 * (9 * x ^ 8)) = 2 * x ^ 8 := by ring
      rw [this]; positivity
    have h := hm hzero hmem h0
    have h' : 1 ≤ (1 + s) * (1 - s)⁻¹ * Real.exp (-series s) := by simpa [series] using h
    rw [Real.exp_neg, ← div_eq_mul_inv, le_div_iff₀ (Real.exp_pos _), one_mul] at h'
    exact (Real.le_log_iff_exp_le hpos).mpr h'
  · have hm : AntitoneOn (fun x => (1 + x) * (1 - x)⁻¹ * Real.exp (-(series x + 1 / 4 * x ^ 9))) (Set.Icc 0 (1 / 3)) := by
      refine antitoneOn_of_deriv_nonpos (convex_Icc _ _) (hcont (1 / 4))
        (fun x hx => (hderiv _ x (hsq x hx).2.2).differentiableAt.differentiableWithinAt) fun x hx => ?_
      rw [(hderiv _ x (hsq x hx).2.2).deriv]
      obtain ⟨h8, h2, -⟩ := hsq x hx
      refine mul_nonpos_of_nonneg_of_nonpos (Real.exp_pos _).le (mul_nonpos_of_nonneg_of_nonpos (sq_nonneg _) ?_)
      have : 2 - (1 - x ^ 2) * (2 + 2 * x ^ 2 + 2 * x ^ 4 + 2 * x ^ 6 + 1 / 4 * (9 * x ^ 8))
          = x ^ 8 * (9 / 4 * x ^ 2 - 1 / 4) := by ring
      rw [this]
      exact mul_nonpos_of_nonneg_of_nonpos h8 (by linarith)
    have h := hm hzero hmem h0
    have h' : (1 + s) * (1 - s)⁻¹ * Real.exp (-(series s + 1 / 4 * s ^ 9)) ≤ 1 := by simpa [series] using h
    rw [Real.exp_neg, ← div_eq_mul_inv, div_le_iff₀ (Real.exp_pos _), one_mul] at h'
    exact (Real.log_le_iff_le_exp hpos).mpr h'

/-- The polynomial is not far below the upper sum: cleared of denominators, the difference is a combination of
    products of powers of `3 s` and `1 - 3 s` with nonnegative coefficients. -/
theorem poly_lower {s : ℝ} (h0 : 0 ≤ s) (h1 : s ≤ 1 / 3) :
    0 ≤ (14999 / 100000000 - (series s + 1 / 4 * s ^ 9)) * (1 - s) ^ 4
      + 2 * s * (-(15684709 / 268435456) * (2 * s) ^ 3 + 7527501 / 33554432 * (2 * s) ^ 2 * (1 - s)
        + -(15771155 / 33554432) * (2 * s) * (1 - s) ^ 2 + 522781 / 524288 * (1 - s) ^ 3) := by
  obtain ⟨r, hr⟩ : ∃ r, r = 1 - 3 * s := ⟨_, rfl⟩
  have hr0 : 0 ≤ r := by linarith
  have key : 73139886489600000000 * ((14999 / 100000000 - (series s + 1 / 4 * s ^ 9)) * (1 - s) ^ 4
      + 2 * s * (-(15684709 / 268435456) * (2 * s) ^ 3 + 7527501 / 33554432 * (2 * s) ^ 2 * (1 - s)
        + -(15771155 / 33554432) * (2 * s) * (1 - s) ^ 2 + 522781 / 524288 * (1 - s) ^ 3))
      = 10970251574575104 * r ^ 15 + 9772493794193088 * (3 * s) * r ^ 14 + 107050663882565298 * (3 * s) ^ 2 * r ^ 13
        + 2433652188052957578 * (3 * s) ^ 3 * r ^ 12 + 13105329061711992273 * (3 * s) ^ 4 * r ^ 11
        + 35389146330132146307 * (3 * s) ^ 5 * r ^ 10 + 57047115714244533801 * (3 * s) ^ 6 * r ^ 9
        + 57542779357889433831 * (3 * s) ^ 7 * r ^ 8 + 35314838412112594746 * (3 * s) ^ 8 * r ^ 7
        + 11459906343470362446 * (3 * s) ^ 9 * r ^ 6 + 1311593962421547972 * (3 * s) ^ 10 * r ^ 5
        + 733386484878658488 * (3 * s) ^ 11 * r ^ 4 + 1105429640903477733 * (3 * s) ^ 12 * r ^ 3
        + 516253752678783743 * (3 * s) ^ 13 * r ^ 2 + 82829709154473073 * (3 * s) ^ 14 * r
        + 260465109224519 * (3 * s) ^ 15 := by
    rw [hr]; unfold series; ring
  have : 0 ≤ 10970251574575104 * r ^ 15 + 9772493794193088 * (3 * s) * r ^ 14 + 107050663882565298 * (3 * s) ^ 2 * r ^ 13
        + 2433652188052957578 * (3 * s) ^ 3 * r ^ 12 + 13105329061711992273 * (3 * s) ^ 4 * r ^ 11
        + 35389146330132146307 * (3 * s) ^ 5 * r ^ 10 + 57047115714244533801 * (3 * s) ^ 6 * r ^ 9
        + 57542779357889433831 * (3 * s) ^ 7 * r ^ 8 + 35314838412112594746 * (3 * s) ^ 8 * r ^ 7
        + 11459906343470362446 * (3 * s) ^ 9 * r ^ 6 + 1311593962421547972 * (3 * s) ^ 10 * r ^ 5
        + 733386484878658488 * (3 * s) ^ 11 * r ^ 4 + 1105429640903477733 * (3 * s) ^ 12 * r ^ 3
        + 516253752678783743 * (3 * s) ^ 13 * r ^ 2 + 82829709154473073 * (3 * s) ^ 14 * r
        + 260465109224519 * (3 * s) ^ 15 := by positivity
  linarith

/-- The polynomial is not far above the lower sum, by the same kind of combination. -/
theorem poly_upper {s : ℝ} (h0 : 0 ≤ s) (h1 : s ≤ 1 / 3) :
    0 ≤ (14999 / 100000000 + series s) * (1 - s) ^ 4
      - 2 * s * (-(15684709 / 268435456) * (2 * s) ^ 3 + 7527501 / 33554432 * (2 * s) ^ 2 * (1 - s)
        + -(15771155 / 33554432) * (2 * s) * (1 - s) ^ 2 + 522781 / 524288 * (1 - s) ^ 3) := by
  obtain ⟨r, hr⟩ : ∃ r, r = 1 - 3 * s := ⟨_, rfl⟩
  have hr0 : 0 ≤ r := by linarith
  have key : 8126654054400000000 * ((14999 / 100000000 + series s) * (1 - s) ^ 4
      - 2 * s * (-(15684709 / 268435456) * (2 * s) ^ 3 + 7527501 / 33554432 * (2 * s) ^ 2 * (1 - s)
        + -(15771155 / 33554432) * (2 * s) * (1 - s) ^ 2 + 522781 / 524288 * (1 - s) ^ 3))
      = 1218916841619456 * r ^ 18 + 35887978218657600 * (3 * s) * r ^ 17 + 300547445838867486 * (3 * s) ^ 2 * r ^ 16
        + 1262288408298089760 * (3 * s) ^ 3 * r ^ 15 + 3134973457614871971 * (3 * s) ^ 4 * r ^ 14
        + 4900241876784985962 * (3 * s) ^ 5 * r ^ 13 + 5164707666013132041 * (3 * s) ^ 6 * r ^ 12
        + 5309178488493843492 * (3 * s) ^ 7 * r ^ 11 + 9367786800726276411 * (3 * s) ^ 8 * r ^ 10
        + 17789814054895629942 * (3 * s) ^ 9 * r ^ 9 + 24207588096743612181 * (3 * s) ^ 10 * r ^ 8
        + 22473526412377303832 * (3 * s) ^ 11 * r ^ 7 + 14242899710703221201 * (3 * s) ^ 12 * r ^ 6
        + 6025579996004047542 * (3 * s) ^ 13 * r ^ 5 + 1581950625405389971 * (3 * s) ^ 14 * r ^ 4
        + 210093796923955300 * (3 * s) ^ 15 * r ^ 3 + 4622620669378641 * (3 * s) ^ 16 * r ^ 2
        + 116546408606570 * (3 * s) ^ 17 * r + 432217848750641 * (3 * s) ^ 18 := by
    rw [hr]; unfold series; ring
  have : 0 ≤ 1218916841619456 * r ^ 18 + 35887978218657600 * (3 * s) * r ^ 17 + 300547445838867486 * (3 * s) ^ 2 * r ^ 16
        + 1262288408298089760 * (3 * s) ^ 3 * r ^ 15 + 3134973457614871971 * (3 * s) ^ 4 * r ^ 14
        + 4900241876784985962 * (3 * s) ^ 5 * r ^ 13 + 5164707666013132041 * (3 * s) ^ 6 * r ^ 12
        + 5309178488493843492 * (3 * s) ^ 7 * r ^ 11 + 9367786800726276411 * (3 * s) ^ 8 * r ^ 10
        + 17789814054895629942 * (3 * s) ^ 9 * r ^ 9 + 24207588096743612181 * (3 * s) ^ 10 * r ^ 8
        + 22473526412377303832 * (3 * s) ^ 11 * r ^ 7 + 14242899710703221201 * (3 * s) ^ 12 * r ^ 6
        + 6025579996004047542 * (3 * s) ^ 13 * r ^ 5 + 1581950625405389971 * (3 * s) ^ 14 * r ^ 4
        + 210093796923955300 * (3 * s) ^ 15 * r ^ 3 + 4622620669378641 * (3 * s) ^ 16 * r ^ 2
        + 116546408606570 * (3 * s) ^ 17 * r + 432217848750641 * (3 * s) ^ 18 := by positivity
  linarith

/-- For `0 ≤ u ≤ 1` the polynomial is within `1.4999e-4` of `log (1 + u)`. -/
theorem logPoly_near {u : ℝ} (h0 : 0 ≤ u) (h1 : u ≤ 1) :
    |logPoly u - Real.log (1 + u)| ≤ 14999 / 100000000 := by
  obtain ⟨s, hs⟩ : ∃ s, s = u / (2 + u) := ⟨_, rfl⟩
  have hs0 : 0 ≤ s := by rw [hs]; positivity
  have hs1 : s ≤ 1 / 3 := by rw [hs, div_le_iff₀ (by linarith)]; linarith
  have hq : 0 < 1 - s := by linarith
  have hu : u = 2 * s / (1 - s) := by
    rw [eq_div_iff hq.ne', hs]; field_simp; ring
  have hratio : 1 + u = (1 + s) * (1 - s)⁻¹ := by rw [hu]; field_simp; ring
  have hpoly : logPoly u * (1 - s) ^ 4
      = 2 * s * (-(15684709 / 268435456) * (2 * s) ^ 3 + 7527501 / 33554432 * (2 * s) ^ 2 * (1 - s)
        + -(15771155 / 33554432) * (2 * s) * (1 - s) ^ 2 + 522781 / 524288 * (1 - s) ^ 3) := by
    rw [hu]; unfold logPoly; field_simp
  obtain ⟨hlo, hhi⟩ := log_ratio_bounds hs0 hs1
  have h4 : 0 < (1 - s) ^ 4 := by positivity
  rw [hratio, abs_le]
  constructor
  · have h := poly_lower hs0 hs1
    rw [← hpoly, ← add_mul] at h
    have := nonneg_of_mul_nonneg_left h h4
    linarith
  · have h := poly_upper hs0 hs1
    rw [← hpoly, ← sub_mul] at h
    have := nonneg_of_mul_nonneg_left h h4
    linarith

end Cert.Proof

end
-- ==== Proof.Scalars.lean ====
/-
  The scalars of the problem over the extended reals: the constants' values, the softplus with the polynomial in it,
  the mask, the target bin and the blur weights. Blur weights are written as whole numbers over 2^35.
-/
module

public import proofs.«01_k».proof.Proof.LogBound
public import Idealize.ShloMosaic.Lib.Pointwise

@[expose] public section

set_option maxRecDepth 16384

noncomputable section

namespace Cert.Proof

open Idealize.ShloMosaic

/-! ### The float constants -/

/-- The value of a normal word, from its sign, exponent and fraction fields. -/
theorem word_real {b : BitVec 32} {r : ℝ} (neg : Bool) (ex fr : ℕ) (hneg : (b.extractLsb' 31 1 == 1#1) = neg)
    (hex : (b.extractLsb' 23 8).toNat = ex) (hfr : (b.extractLsb' 0 23).toNat = fr) (h255 : ex ≠ 255) (h0 : ex ≠ 0)
    (hr : (if neg then -1 else 1) * (8388608 + fr : ℝ) * (2 : ℝ) ^ ((ex : ℤ) - 150) = r) :
    Ideal.ofBits .f32 b = ((r : ℝ) : EReal) := by
  subst hr hneg hex hfr
  show Ideal.ieee 8 23 b = _
  unfold Ideal.ieee
  dsimp only
  rw [if_neg (by exact h255), if_neg h0]
  congr 1
  push_cast
  congr 2
  omega

/-- The word of 1. -/
theorem word_one : Ideal.ofBits .f32 0x3F800000#32 = ((1 : ℝ) : EReal) :=
  word_real false 127 0 rfl rfl rfl (by decide) (by decide) (by norm_num)

/-- The word of the pad value -1. -/
theorem word_neg_one : Ideal.ofBits .f32 0xBF800000#32 = ((-1 : ℝ) : EReal) :=
  word_real true 127 0 rfl rfl rfl (by decide) (by decide) (by norm_num)

/-- The word of the number of bins per unit. -/
theorem word_fifty : Ideal.ofBits .f32 0x42480000#32 = ((50 : ℝ) : EReal) :=
  word_real false 132 4718592 rfl rfl rfl (by decide) (by decide) (by norm_num)

/-- The word of infinity. -/
theorem word_top : Ideal.ofBits .f32 0x7F800000#32 = ⊤ := by
  show Ideal.ieee 8 23 0x7F800000#32 = _
  unfold Ideal.ieee
  dsimp only
  rw [if_pos (by decide), if_pos (by decide), if_neg (by decide)]

/-- The polynomial's linear coefficient. -/
theorem word_P0 : Ideal.ofBits .f32 0x3F7F43A0#32 = ((522781 / 524288 : ℝ) : EReal) :=
  word_real false 126 8340384 rfl rfl rfl (by decide) (by decide) (by norm_num)

/-- The polynomial's quadratic coefficient. -/
theorem word_P1 : Ideal.ofBits .f32 0xBEF0A613#32 = ((-(15771155 / 33554432) : ℝ) : EReal) :=
  word_real true 125 7382547 rfl rfl rfl (by decide) (by decide) (by norm_num)

/-- The polynomial's quadratic coefficient, negated. -/
theorem word_P1_neg : Ideal.ofBits .f32 0x3EF0A613#32 = ((15771155 / 33554432 : ℝ) : EReal) :=
  word_real false 125 7382547 rfl rfl rfl (by decide) (by decide) (by norm_num)

/-- The polynomial's cubic coefficient. -/
theorem word_P2 : Ideal.ofBits .f32 0x3E65B89A#32 = ((7527501 / 33554432 : ℝ) : EReal) :=
  word_real false 124 6666394 rfl rfl rfl (by decide) (by decide) (by norm_num)

/-- The polynomial's quartic coefficient. -/
theorem word_P3 : Ideal.ofBits .f32 0xBD6F5465#32 = ((-(15684709 / 268435456) : ℝ) : EReal) :=
  word_real true 122 7296101 rfl rfl rfl (by decide) (by decide) (by norm_num)

/-- The polynomial's quartic coefficient, negated. -/
theorem word_P3_neg : Ideal.ofBits .f32 0x3D6F5465#32 = ((15684709 / 268435456 : ℝ) : EReal) :=
  word_real false 122 7296101 rfl rfl rfl (by decide) (by decide) (by norm_num)

/-- The blur's outer taps. -/
theorem word_outer : Ideal.ofBits .f32 0x398A575F#32 = ((9066335 / 34359738368 : ℝ) : EReal) :=
  word_real false 115 677727 rfl rfl rfl (by decide) (by decide) (by norm_num)

/-- The blur's inner taps. -/
theorem word_inner : Ideal.ofBits .f32 0x3DDA02DD#32 = ((3657620736 / 34359738368 : ℝ) : EReal) :=
  word_real false 123 5898973 rfl rfl rfl (by decide) (by decide) (by norm_num)

/-- Two inner taps: one of them reflected at an edge. -/
theorem word_inner_twice : Ideal.ofBits .f32 0x3E5A02DD#32 = ((7315241472 / 34359738368 : ℝ) : EReal) :=
  word_real false 124 5898973 rfl rfl rfl (by decide) (by decide) (by norm_num)

/-- The blur's middle tap. -/
theorem word_middle : Ideal.ofBits .f32 0x3F495CB3#32 = ((27026364416 / 34359738368 : ℝ) : EReal) :=
  word_real false 126 4807859 rfl rfl rfl (by decide) (by decide) (by norm_num)

/-- The weight below which one counts as zero. -/
theorem word_cut : Ideal.ofBits .f32 0x3A83126F#32 = ((34359740 / 34359738368 : ℝ) : EReal) :=
  word_real false 117 201327 rfl rfl rfl (by decide) (by decide) (by norm_num)

/-- The bound's factor of |x|. -/
theorem word_slope : Ideal.ofBits .f32 0x3A0AEFB3#32 = ((9105331 / 17179869184 : ℝ) : EReal) :=
  word_real false 116 716723 rfl rfl rfl (by decide) (by decide) (by norm_num)

/-- The bound's constant part. -/
theorem word_offset : Ideal.ofBits .f32 0x391D4952#32 = ((5153961 / 34359738368 : ℝ) : EReal) :=
  word_real false 114 1919314 rfl rfl rfl (by decide) (by decide) (by norm_num)

/-! ### Softplus -/

/-- exp(-|x|) for a real logit. -/
def decay (x : ℝ) : ℝ := Real.exp (-|x|)

/-- exp(-|x|) is not negative. -/
theorem decay_nonneg (x : ℝ) : 0 ≤ decay x := (Real.exp_pos _).le

/-- exp(-|x|) is at most 1. -/
theorem decay_le_one (x : ℝ) : decay x ≤ 1 := Real.exp_le_one_iff.mpr (neg_nonpos.mpr (abs_nonneg x))

/-- max(x, 0) plus the polynomial at exp(-|x|). -/
def softReal (x : ℝ) : ℝ := max x 0 + logPoly (decay x)

/-- The absolute value of a real, as the larger of it and its negation. -/
theorem abs_coe (x : ℝ) : max (x : EReal) (-(x : EReal)) = ((|x| : ℝ) : EReal) := by
  rw [← EReal.coe_neg, ← EReal.coe_strictMono.monotone.map_max]; rfl

/-- A power of two with the exponent scaled by `-1 / log 2` is the exponential. -/
theorem exp2_scaled (x : ℝ) :
    Ideal.exp2 (((|x| : ℝ) : EReal) * ((-((Real.log 2)⁻¹) : ℝ) : EReal)) = ((decay x : ℝ) : EReal) := by
  have hlog : Real.log 2 ≠ 0 := (Real.log_pos one_lt_two).ne'
  rw [← EReal.coe_mul, Ideal.exp2_coe]
  congr 1
  show (2 : ℝ) ^ (|x| * -(Real.log 2)⁻¹) = Real.exp (-|x|)
  rw [Real.rpow_def_of_pos two_pos]
  congr 1
  field_simp

/-! ### Mask and target bin -/

/-- Zero at the marker −1, one elsewhere. -/
def maskReal (g : EReal) : ℝ := if g = ((-1 : ℝ) : EReal) then 0 else 1

/-- The mask is not negative. -/
theorem maskReal_nonneg (g : EReal) : 0 ≤ maskReal g := by unfold maskReal; split <;> norm_num

/-- The target bin: `50 g` rounded down, clipped to the bins there are. -/
def bin (g : EReal) : BitVec 32 :=
  IntOp.minsi 49#32 (IntOp.maxsi 0#32
    (Ideal.fptosi 32 (Ideal.liftRound Int.floor ((g - 0) * ((50 : ℝ) : EReal)))))

/-- A word clipped to 0 … 49 is below fifty. -/
theorem clipped_lt (w : BitVec 32) : (IntOp.minsi 49#32 (IntOp.maxsi 0#32 w)).toNat < 50 := by
  unfold IntOp.minsi IntOp.maxsi
  by_cases h1 : w.slt 0#32 = true
  · rw [if_pos h1]; decide
  · rw [if_neg h1]
    by_cases h2 : (49#32).slt w = true
    · rw [if_pos h2]; decide
    · rw [if_neg h2]
      rw [BitVec.slt_iff_toInt_lt] at h1 h2
      have h0 : (0#32).toInt = 0 := by decide
      have h49 : (49#32).toInt = 49 := by decide
      have hw := BitVec.toInt_eq_toNat_cond w
      split at hw <;> omega

/-- A bin is one of the fifty. -/
theorem bin_lt (g : EReal) : (bin g).toNat < 50 := clipped_lt _

/-- Comparing the target bin with a bin number compares numbers. -/
theorem bin_eq_iff (g : EReal) (n : ℕ) (hn : n < 50) : bin g = BitVec.ofNat 32 n ↔ (bin g).toNat = n := by
  rw [← BitVec.toNat_inj, BitVec.toNat_ofNat, Nat.mod_eq_of_lt (by omega)]

/-! ### Blur weights -/

/-- Where position `j` of the row of bins padded by two on each side comes from: reflected at the ends. -/
def mirrored (j : ℕ) : ℕ := if j < 2 then 2 - j else if j < 52 then j - 2 else 100 - j

/-- A number where the mirrored position is the target bin, zero elsewhere. -/
def hit (q j k : ℕ) : ℕ := if q = mirrored j then k else 0

/-- The blurred one-hot row of target bin `q` at bin `n`, over 2^35. -/
def rawTap (q n : ℕ) : ℕ :=
  hit q n 9066335 + hit q (n + 1) 3657620736 + hit q (n + 2) 27026364416 + hit q (n + 3) 3657620736 + hit q (n + 4) 9066335

/-- The same with weights below a thousandth counted as zero. -/
def keptTap (q n : ℕ) : ℕ := if rawTap q n < 34359740 then 0 else rawTap q n

/-- The weight of the bin below the target bin, of the target bin, and of the bin above it. -/
def lowTap (q : ℕ) : ℕ := if q = 1 then 7315241472 else 3657620736
/-- The weight of bin `q` onto itself, over 2^35. -/
def ownTap (q : ℕ) : ℕ := if q = 1 ∨ q = 48 then 27035430751 else 27026364416
/-- The weight of bin `q` onto the bin above it, over 2^35. -/
def highTap (q : ℕ) : ℕ := if q = 48 then 7315241472 else 3657620736

/-- The kept weights are those of the target bin and its two neighbours. -/
theorem keptTap_eq (q n : Fin 50) :
    keptTap q n = (if n.val + 1 = q then lowTap q else 0) + (if n.val = q then ownTap q else 0)
      + (if n.val = q + 1 then highTap q else 0) := by
  revert q n; decide +kernel

/-- What is dropped is at most two outer taps. -/
theorem rawTap_bounds (q n : Fin 50) : keptTap q n ≤ rawTap q n ∧ rawTap q n ≤ keptTap q n + 18132670 := by
  revert q n; decide +kernel

/-- A weight over 2^35 as a real. -/
def weight (k : ℕ) : ℝ := (k : ℝ) / 34359738368

/-- The blurred logit of the target bin. -/
def blurReal (x : ℕ → ℝ) (q : ℕ) : ℝ :=
  (if q = 0 then 0 else weight (lowTap q) * x (q - 1)) + weight (ownTap q) * x q
    + (if q = 49 then 0 else weight (highTap q) * x (q + 1))

/-- The row of kept weights against the logits is the blurred logit of the target bin. -/
theorem sum_keptTap (x : ℕ → ℝ) (q : Fin 50) :
    ∑ n : Fin 50, x n * weight (keptTap q n) = blurReal x q := by
  have h (n : Fin 50) : x n * weight (keptTap q n) =
      (if n.val + 1 = q then weight (lowTap q) * x n else 0) + (if n.val = q then weight (ownTap q) * x n else 0)
        + (if n.val = q + 1 then weight (highTap q) * x n else 0) := by
    rw [keptTap_eq]
    unfold weight
    split_ifs <;> first | omega | (push_cast; ring)
  simp only [h, Finset.sum_add_distrib]
  unfold blurReal
  have pick (r : ℕ) (c : ℝ) (p : Fin 50 → Prop) [DecidablePred p] (hp : ∀ n, p n ↔ n.val = r) :
      (∑ n : Fin 50, if p n then c * x n else 0) = if r < 50 then c * x r else 0 := by
    split
    · rename_i hr
      rw [Finset.sum_eq_single ⟨r, hr⟩]
      · rw [if_pos ((hp _).mpr rfl)]
      · intro n _ hn
        rw [if_neg fun hpn => hn (Fin.ext ((hp n).mp hpn))]
      · simp
    · rename_i hr
      exact Finset.sum_eq_zero fun n _ => if_neg fun hpn => hr (by rw [← (hp n).mp hpn]; exact n.isLt)
  have hq := q.isLt
  congr 1
  · congr 1
    · by_cases h0 : q.val = 0
      · rw [if_pos h0]
        exact Finset.sum_eq_zero fun n _ => if_neg (by omega)
      · rw [pick (q - 1) _ _ (fun n => by omega), if_pos (by omega), if_neg h0]
    · rw [pick q _ _ (fun n => Iff.rfl), if_pos hq]
  · rw [pick (q + 1) _ _ (fun n => Iff.rfl)]
    by_cases h49 : q.val = 49
    · rw [if_neg (by omega), if_pos h49]
    · rw [if_pos (by omega), if_neg h49]

/-! ### Sums of reals inside the extended reals -/

/-- A finite sum of reals, taken in the extended reals. -/
theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

end Cert.Proof

end
-- ==== Proof.Slice.lean ====
/-
  One lane slice of the kernel's block, written as recursions over the bins, for any float model.

  A slice holds 8 rows by 512 lanes.  For each bin the kernel loads one 8x512 plane of logits, adds the
  bin's softplus to one running sum, and adds the bin's blurred logit, where the bin is the target bin,
  to another.  The slice's scalar is the masked sum of the difference of the two.
-/
module

public import proofs.«01_k».proof.Proof.Gen.KernelIdeal.Skeleton
public import Idealize.ShloMosaic.Lib.Pipeline.Value

@[expose] public section

noncomputable section

namespace Cert.Proof

open Idealize.ShloMosaic Cert.KernelIdeal Cert.KernelIdeal.Gen

variable {F : FTy → Type} [FloatOps F] [Named F]

/-- The 8x512 plane holding one f32 word everywhere. -/
def splat (b : BitVec 32) : FVec F S8x512 .f32 := broadcast S8x512 (Scalar.ofBits .f32 b)

/-- A loaded 1x8x512 plane of logits as an 8x512 one. -/
def plane (v : Vec F S1x8x512 .f32) : FVec F S8x512 .f32 := shapeCast S8x512 v shapeCasts_S1x8x512_S8x512

/-- exp(-|x|), taken as a power of two. -/
def expo (x : FVec F S8x512 .f32) : FVec F S8x512 .f32 :=
  exp2 (mulf (absf x) (broadcast S8x512 (Named.named κ "neg_log2e" 0xBFB8AA3B#32)))

/-- The kernel's softplus: max(x, 0) plus a cubic in u = exp(-|x|), times u. -/
def soft (x : FVec F S8x512 .f32) : FVec F S8x512 .f32 :=
  addf (maximumf x (splat 0x00000000#32))
    (mulf (expo x)
      (addf (mulf (addf (mulf (addf (mulf (splat 0xBD6F5465#32) (expo x)) (splat 0x3E65B89A#32)) (expo x))
        (splat 0xBEF0A613#32)) (expo x)) (splat 0x3F7F43A0#32)))

/-- The weight a target bin gives the bin below it. -/
def lowerTap (a : ℕ) : BitVec 32 := Bool.rec 0x3DDA02DD#32 0x3E5A02DD#32 (Nat.beq a 1)

/-- The weight a target bin gives the bin above it. -/
def upperTap (a : ℕ) : BitVec 32 := Bool.rec 0x3DDA02DD#32 0x3E5A02DD#32 (Nat.beq a 48)

/-- The weight a target bin gives itself. -/
def centreTap (a : ℕ) : F .f32 :=
  Bool.rec (Bool.rec (Scalar.ofBits .f32 0x3F495CB3#32) (Named.named κ "edge_tap" 0x3F496DFE#32) (Nat.beq a 48))
    (Named.named κ "edge_tap" 0x3F496DFE#32) (Nat.beq a 1)

/-- The blurred logit at target bin `a`: the weighted logits of the bins next to it, in the kernel's order. -/
def blurred (x : ℕ → FVec F S8x512 .f32) (a : ℕ) : FVec F S8x512 .f32 :=
  Bool.rec
    (Bool.rec
      (addf (addf (mulf (splat (lowerTap a)) (x (Nat.sub a 1))) (mulf (broadcast S8x512 (centreTap a)) (x a)))
        (mulf (splat (upperTap a)) (x (Nat.add a 1))))
      (addf (mulf (splat (lowerTap a)) (x (Nat.sub a 1))) (mulf (broadcast S8x512 (centreTap a)) (x a)))
      (Nat.beq a 49))
    (addf (mulf (broadcast S8x512 (centreTap a)) (x a)) (mulf (splat (upperTap a)) (x (Nat.add a 1))))
    (Nat.beq a 0)

/-- The running sum of softplus over the first `n` bins. -/
def softSum (x : ℕ → FVec F S8x512 .f32) (n : ℕ) : FVec F S8x512 .f32 :=
  Nat.rec (splat 0x00000000#32) (fun k acc => addf acc (soft (x k))) n

/-- The running sum over the first `n` bins of the blurred logit where the bin is the target bin `q`. -/
def gathered (q : IVec S8x512 32) (x : ℕ → FVec F S8x512 .f32) (n : ℕ) : FVec F S8x512 .f32 :=
  Nat.rec (splat 0x00000000#32)
    (fun k acc => addf acc (select (cmpi .eq q (broadcast S8x512 (BitVec.ofNat 32 k))) (blurred x k)
      (splat 0x00000000#32))) n

/-- The target bin of each lane: the quantised frequency, clipped to the bins there are. -/
def targetBin (g : FVec F S8x512 .f32) : IVec S8x512 32 :=
  minsi (broadcast S8x512 49#32) (maxsi (broadcast S8x512 0#32)
    (fptosi 32 (floor (mulf (subf g (splat 0x00000000#32)) (splat 0x42480000#32)))))

/-- One where a lane's frequency is given, zero where it is the marker −1. -/
def validLane (g : FVec F S8x512 .f32) : FVec F S8x512 .f32 :=
  sitofp .f32 (extui 32 (cmpf .one g (splat 0xBF800000#32)) natLt_1_32)

/-- The lane-by-lane loss of a slice. -/
def laneLoss (x : ℕ → FVec F S8x512 .f32) (g : FVec F S8x512 .f32) : FVec F S8x512 .f32 :=
  mulf (validLane g) (subf (softSum x 50) (gathered (targetBin g) x 50))

/-- The sum of an 8x512 plane as the kernel takes it. -/
def planeSum (v : FVec F S8x512 .f32) : F .f32 :=
  extractAt ![0, 0, 0]
    (shapeCast S1x1x1 (multiReduction .add [1, 2] S1 (shapeCast S1x8x512 v shapeCasts_S8x512_S1x8x512)
      0x00000000#32 reduces_S1x8x512_S1 (.inl rfl) rfl) shapeCasts_S1_S1x1x1) inpos_S1x1x1_p0_0_0

/-- The sum of the first `n` slices of a block, whose planes of logits are `x bin slice` and of frequencies `g slice`. -/
def sliceSum (x : ℕ → ℕ → Vec F S1x8x512 .f32) (g : ℕ → Vec F S8x512 .f32) (n : ℕ) : F .f32 :=
  Nat.rec (Scalar.ofBits .f32 0x00000000#32)
    (fun h acc => Scalar.addf acc (planeSum (laneLoss (fun k => plane (x k h)) (g h)))) n

/-- A chunk of one bin's logits lies within its block. -/
theorem inbLogits (k h : ℕ) (a : Fin S50x8x4096.rank) :
    (![min k 49, 0, 512 * min h 7] : Fin 3 → ℕ) a + S1x8x512.size a ≤ S50x8x4096.size a := by
  match a with
  | ⟨0, _⟩ => show min k 49 + 1 ≤ 50; omega
  | ⟨1, _⟩ => show 0 + 8 ≤ 8; omega
  | ⟨2, _⟩ => show 512 * min h 7 + 512 ≤ 4096; omega

/-- A chunk of the frequencies lies within its block. -/
theorem inbFreqs (h : ℕ) (a : Fin S8x4096.rank) :
    (![0, 512 * min h 7] : Fin 2 → ℕ) a + S8x512.size a ≤ S8x4096.size a := by
  match a with
  | ⟨0, _⟩ => show 0 + 8 ≤ 8; omega
  | ⟨1, _⟩ => show 512 * min h 7 + 512 ≤ 4096; omega

/-- Where the plane of bin `k` and slice `h` lies in a block of logits. -/
abbrev logitRect (k h : ℕ) : Rect S50x8x4096 :=
  Rect.unit (s := S50x8x4096) ![min k 49, 0, 512 * min h 7] S1x8x512.size (inbLogits k h)

/-- Where slice `h` lies in a block of frequencies. -/
abbrev freqRect (h : ℕ) : Rect S8x4096 :=
  Rect.unit (s := S8x4096) ![0, 512 * min h 7] S8x512.size (inbFreqs h)

/-- The whole block's sum. -/
def blockSum (x0 : Vec F S50x8x4096 .f32) (x1 : Vec F S8x4096 .f32) : F .f32 :=
  sliceSum (fun k h => View.ld x0 (logitRect k h)) (fun h => View.ld x1 (freqRect h)) 8

end Cert.Proof

end
-- ==== Proof.KernelLane.lean ====
/-
  One lane of the kernel, read in the extended reals: with real logits everything a lane computes is real.
-/
module

public import proofs.«01_k».proof.Proof.Scalars
public import proofs.«01_k».proof.Proof.Slice
public import Idealize.ShloMosaic.Lib.Pointwise

@[expose] public section

set_option maxRecDepth 16384

noncomputable section

namespace Cert.Proof

open Idealize.ShloMosaic Cert.KernelIdeal Cert.KernelIdeal.Gen

/-- The constant −1 / log 2 the exponent is scaled by. -/
theorem named_scale : (Named.named κ "neg_log2e" 0xBFB8AA3B#32 : Ideal .f32) = ((-((Real.log 2)⁻¹) : ℝ) : EReal) := rfl

/-- The constant for the target bin's own weight next to an edge. -/
theorem named_edge : (Named.named κ "edge_tap" 0x3F496DFE#32 : Ideal .f32) = ((27035430751 / 34359738368 : ℝ) : EReal) := rfl

variable {j : S8x512.Idx}

/-- A plane holding one word, at any index. -/
theorem splat_apply (b : BitVec 32) : (splat b : FVec Ideal S8x512 .f32) j = Ideal.ofBits .f32 b := rfl

/-- The power of two, at a real logit. -/
theorem expo_apply {x : FVec Ideal S8x512 .f32} {r : ℝ} (hx : x j = ((r : ℝ) : EReal)) :
    expo x j = ((decay r : ℝ) : EReal) := by
  show Ideal.exp2 (max (x j) (-(x j)) * (Named.named κ "neg_log2e" 0xBFB8AA3B#32 : Ideal .f32)) = _
  rw [hx, named_scale, abs_coe]
  exact exp2_scaled r

/-- The softplus, at a real logit. -/
theorem soft_apply {x : FVec Ideal S8x512 .f32} {r : ℝ} (hx : x j = ((r : ℝ) : EReal)) :
    soft x j = ((softReal r : ℝ) : EReal) := by
  show max (x j) (Ideal.ofBits .f32 0x00000000#32) + expo x j * (((Ideal.ofBits .f32 0xBD6F5465#32 * expo x j
    + Ideal.ofBits .f32 0x3E65B89A#32) * expo x j + Ideal.ofBits .f32 0xBEF0A613#32) * expo x j
    + Ideal.ofBits .f32 0x3F7F43A0#32) = _
  rw [expo_apply hx, hx, word_P0, word_P1, word_P2, word_P3, Ideal.ofBits_zero_f32, ← EReal.coe_zero,
    ← EReal.coe_strictMono.monotone.map_max]
  simp only [← EReal.coe_mul, ← EReal.coe_add]
  rfl

/-- The sum of softplus over the first bins, at real logits. -/
theorem softSum_apply {x : ℕ → FVec Ideal S8x512 .f32} {r : ℕ → ℝ} (hx : ∀ k, x k j = ((r k : ℝ) : EReal)) :
    ∀ n : ℕ, softSum x n j = ((∑ k ∈ Finset.range n, softReal (r k) : ℝ) : EReal)
  | 0 => by
    show Ideal.ofBits .f32 0x00000000#32 = _
    rw [Ideal.ofBits_zero_f32]; simp
  | n + 1 => by
    show softSum x n j + soft (x n) j = _
    rw [softSum_apply hx n, soft_apply (hx n), ← EReal.coe_add, Finset.sum_range_succ]

/-- Two different bin numbers compare as different. -/
theorem beq_false_of_ne {a b : ℕ} (h : a ≠ b) : Nat.beq a b = false :=
  Bool.eq_false_iff.mpr fun e => h (Nat.eq_of_beq_eq_true e)

/-- The three weights of a target bin as reals. -/
theorem lowerTap_apply (a : ℕ) : Ideal.ofBits .f32 (lowerTap a) = ((weight (lowTap a) : ℝ) : EReal) := by
  unfold lowerTap lowTap weight
  by_cases h : a = 1
  · subst h; rw [if_pos rfl]; exact word_inner_twice.trans (by norm_num)
  · rw [if_neg h, beq_false_of_ne h]; exact word_inner.trans (by norm_num)

/-- The word of the weight onto the bin above stands for that weight. -/
theorem upperTap_apply (a : ℕ) : Ideal.ofBits .f32 (upperTap a) = ((weight (highTap a) : ℝ) : EReal) := by
  unfold upperTap highTap weight
  by_cases h : a = 48
  · subst h; rw [if_pos rfl]; exact word_inner_twice.trans (by norm_num)
  · rw [if_neg h, beq_false_of_ne h]; exact word_inner.trans (by norm_num)

/-- The weight of a bin onto itself, a word or the named constant, is that weight. -/
theorem centreTap_apply (a : ℕ) : (centreTap a : Ideal .f32) = ((weight (ownTap a) : ℝ) : EReal) := by
  unfold centreTap ownTap weight
  by_cases h : a = 1
  · subst h; rw [if_pos (Or.inl rfl)]; exact named_edge.trans (by norm_num)
  · rw [beq_false_of_ne h]
    by_cases h' : a = 48
    · subst h'; rw [if_pos (Or.inr rfl)]; exact named_edge.trans (by norm_num)
    · rw [if_neg (by omega), beq_false_of_ne h']; exact word_middle.trans (by norm_num)

/-- The blurred logit of a bin, at real logits. -/
theorem blurred_apply {x : ℕ → FVec Ideal S8x512 .f32} {r : ℕ → ℝ} (hx : ∀ k, x k j = ((r k : ℝ) : EReal)) (a : ℕ) :
    blurred x a j = ((blurReal r a : ℝ) : EReal) := by
  have hlow : mulf (splat (lowerTap a)) (x (Nat.sub a 1)) j = ((weight (lowTap a) * r (a - 1) : ℝ) : EReal) := by
    show Ideal.ofBits .f32 (lowerTap a) * x (a - 1) j = _
    rw [lowerTap_apply, hx, ← EReal.coe_mul]
  have hown : mulf (broadcast S8x512 (centreTap a)) (x a) j = ((weight (ownTap a) * r a : ℝ) : EReal) := by
    show (centreTap a : Ideal .f32) * x a j = _
    rw [centreTap_apply, hx, ← EReal.coe_mul]
  have hhigh : mulf (splat (upperTap a)) (x (Nat.add a 1)) j = ((weight (highTap a) * r (a + 1) : ℝ) : EReal) := by
    show Ideal.ofBits .f32 (upperTap a) * x (a + 1) j = _
    rw [upperTap_apply, hx, ← EReal.coe_mul]
  unfold blurred blurReal
  by_cases h0 : a = 0
  · subst h0
    show mulf (broadcast S8x512 (centreTap 0)) (x 0) j + mulf (splat (upperTap 0)) (x (Nat.add 0 1)) j = _
    rw [hown, hhigh, ← EReal.coe_add]; simp
  · rw [if_neg h0, beq_false_of_ne h0]
    by_cases h49 : a = 49
    · subst h49
      show mulf (splat (lowerTap 49)) (x (Nat.sub 49 1)) j + mulf (broadcast S8x512 (centreTap 49)) (x 49) j = _
      rw [hown, hlow, ← EReal.coe_add]; simp
    · rw [if_neg h49, beq_false_of_ne h49]
      show mulf (splat (lowerTap a)) (x (Nat.sub a 1)) j + mulf (broadcast S8x512 (centreTap a)) (x a) j
        + mulf (splat (upperTap a)) (x (Nat.add a 1)) j = _
      rw [hown, hlow, hhigh, ← EReal.coe_add, ← EReal.coe_add]

/-- The gathered sum over the first bins: the target bin's blurred logit once that bin has been passed. -/
theorem gathered_apply {x : ℕ → FVec Ideal S8x512 .f32} {r : ℕ → ℝ} (hx : ∀ k, x k j = ((r k : ℝ) : EReal))
    {q : IVec S8x512 32} {g : EReal} (hq : q j = bin g) :
    ∀ n : ℕ, n ≤ 50 → gathered q x n j = ((if (bin g).toNat < n then blurReal r (bin g).toNat else 0 : ℝ) : EReal)
  | 0, _ => by
    show Ideal.ofBits .f32 0x00000000#32 = _
    rw [Ideal.ofBits_zero_f32]; simp
  | n + 1, hn => by
    show gathered q x n j + Scalar.select (IntOp.cmpi .eq (q j) (BitVec.ofNat 32 n)) (blurred x n j)
      (Ideal.ofBits .f32 0x00000000#32) = _
    rw [gathered_apply hx hq n (by omega), blurred_apply hx n, Ideal.ofBits_zero_f32, hq, ← EReal.coe_zero]
    by_cases h : (bin g).toNat = n
    · rw [if_neg (by omega), if_pos (by omega), h, (bin_eq_iff g n (by omega)).mpr h,
        show IntOp.cmpi .eq (BitVec.ofNat 32 n) (BitVec.ofNat 32 n) = 1#1 by simp [IntOp.cmpi]]
      show (_ : EReal) + ((blurReal r n : ℝ) : EReal) = _
      rw [← EReal.coe_add, zero_add]
    · have hne : bin g ≠ BitVec.ofNat 32 n := fun he => h ((bin_eq_iff g n (by omega)).mp he)
      rw [show IntOp.cmpi .eq (bin g) (BitVec.ofNat 32 n) = 0#1 by
        unfold IntOp.cmpi; dsimp only; rw [beq_eq_false_iff_ne.mpr hne]; rfl]
      show (_ : EReal) + ((0 : ℝ) : EReal) = _
      rw [← EReal.coe_add, add_zero]
      congr 1
      by_cases hlt : (bin g).toNat < n
      · rw [if_pos hlt, if_pos (by omega)]
      · rw [if_neg hlt, if_neg (by omega)]

/-- The target bin of a lane. -/
theorem targetBin_apply (g : FVec Ideal S8x512 .f32) : targetBin g j = bin (g j) := by
  show IntOp.minsi 49#32 (IntOp.maxsi 0#32 (Ideal.fptosi 32 (Ideal.liftRound Int.floor
    ((g j - Ideal.ofBits .f32 0x00000000#32) * Ideal.ofBits .f32 0x42480000#32)))) = _
  rw [Ideal.ofBits_zero_f32, word_fifty]
  rfl

/-- The mask of a lane. -/
theorem validLane_apply (g : FVec Ideal S8x512 .f32) : validLane g j = ((maskReal (g j) : ℝ) : EReal) := by
  show (((((Ideal.cmp .one (g j) (Ideal.ofBits .f32 0xBF800000#32)).setWidth 32).toInt : ℝ)) : EReal) = _
  rw [word_neg_one]
  unfold maskReal
  by_cases h : g j = ((-1 : ℝ) : EReal)
  · rw [if_pos h, h, show Ideal.cmp .one ((-1 : ℝ) : EReal) ((-1 : ℝ) : EReal) = 0#1 by
      unfold Ideal.cmp; dsimp only; rw [decide_eq_false (not_not.mpr rfl)]; rfl]
    norm_num
  · rw [if_neg h, show Ideal.cmp .one (g j) ((-1 : ℝ) : EReal) = 1#1 by
      unfold Ideal.cmp; dsimp only; rw [decide_eq_true h]; rfl]
    norm_num

/-- The loss of a lane whose frequency is `g` and whose logits are the reals `r`. -/
def laneReal (r : ℕ → ℝ) (g : EReal) : ℝ :=
  maskReal g * (∑ k ∈ Finset.range 50, softReal (r k) - blurReal r (bin g).toNat)

/-- A lane of the kernel computes that loss, if its logits are real or no frequency is given. -/
theorem laneLoss_apply {x : ℕ → FVec Ideal S8x512 .f32} {r : ℕ → ℝ} (g : FVec Ideal S8x512 .f32)
    (hx : g j ≠ ((-1 : ℝ) : EReal) → ∀ k, x k j = ((r k : ℝ) : EReal)) :
    laneLoss x g j = ((laneReal r (g j) : ℝ) : EReal) := by
  show validLane g j * (softSum x 50 j - gathered (targetBin g) x 50 j) = _
  rw [validLane_apply]
  by_cases hg : g j = ((-1 : ℝ) : EReal)
  · unfold laneReal
    rw [show maskReal (g j) = 0 from if_pos hg, EReal.coe_zero, zero_mul, zero_mul, EReal.coe_zero]
  replace hx := hx hg
  rw [softSum_apply hx, gathered_apply hx (targetBin_apply g) 50 le_rfl, if_pos (bin_lt _),
    ← EReal.coe_sub, ← EReal.coe_mul]
  rfl

end Cert.Proof

end
-- ==== Proof.Body.lean ====
/-
  What one run of the kernel's body leaves in the one-cell output: the cell before it plus the block's sum.
-/
module

public import proofs.«01_k».proof.Proof.Slice
public import proofs.«01_k».proof.Proof.Gen.KernelIdeal.Frame
public import Idealize.ShloMosaic.Lib.Pipeline.Value
public import Idealize.ShloMosaic.Lib.Tactic

@[expose] public section

set_option maxRecDepth 65536

noncomputable section

namespace Cert.Proof

open Idealize.ShloMosaic Idealize.ShloMosaic.TcCoe Idealize.SL.Sem
open Cert.KernelIdeal Cert.KernelIdeal.Gen

variable {F : FTy → Type} [FloatOps F] [Named F]

/-- The offsets of a whole-array access are zero. -/
theorem offsets_zero : (![0, 0] : Fin 2 → Nat) = fun _ => 0 := funext fun a => by fin_cases a <;> rfl

/-- The one-cell block holding a number. -/
abbrev cell (v : F .f32) : Vec F S1x1 .f32 := broadcast S1x1 v

/-- Past the first point the body adds the block's sum to the cell. -/
theorem out_B (c : Dev nD) (i : grid0.Coords) (a2 : Memref sig .tc .vmem S50x8x4096 .f32) (h2 : a2.IsWhole)
    (a3 : Memref sig .tc .vmem S8x4096 .f32) (h3 : a3.IsWhole) (a4 : Memref sig .tc .vmem S1x1 .f32) (h4 : a4.IsWhole)
    (hc : ¬cond0_0 i) (x0 : Vec F S50x8x4096 .f32) (x1 : Vec F S8x4096 .f32) (xo : Vec F S1x1 .f32) :
    out0_B_2 c i a2 h2 a3 h3 a4 h4 hc x0 x1 xo = addf xo (cell (blockSum x0 x1)) := by
  unfold out0_B_2
  rw [View.read_writes_eq_canon _ _ _ (cover0_B_2 c i a2 h2 a3 h3 a4 h4 hc x0 x1 xo)]
  unfold kernelRun0_B
  dsimp only
  rw [View.canon_unit_zero offsets_zero]
  trans k0_pay2
    (cell (sliceSum (fun k h => a2.view.readAt (Elt F) (logitRect k h).toLoadRect (h2.unread x0))
      (fun h => a3.view.readAt (Elt F) (freqRect h).toLoadRect (h3.unread x1)) 8))
    (a4.view.readAt (Elt F) (Rect.unit (s := S1x1) ![0, 0] S1x1.size inb_S1x1_S1x1_0_0).toLoadRect (h4.unread xo))
  · sl_kernel_rfl
  · unfold k0_pay2 blockSum
    simp only [View.readAt_eq_ld, h2.read_unread, h3.read_unread, h4.read_unread,
      View.ld_unit_zero (S := S1x1) offsets_zero, shapeCast_self]

/-- At the first point the body leaves the block's sum added to zero. -/
theorem out_A (c : Dev nD) (i : grid0.Coords) (a2 : Memref sig .tc .vmem S50x8x4096 .f32) (h2 : a2.IsWhole)
    (a3 : Memref sig .tc .vmem S8x4096 .f32) (h3 : a3.IsWhole) (a4 : Memref sig .tc .vmem S1x1 .f32) (h4 : a4.IsWhole)
    (hc : cond0_0 i) (x0 : Vec F S50x8x4096 .f32) (x1 : Vec F S8x4096 .f32) :
    out0_A_2 c i a2 h2 a3 h3 a4 h4 hc x0 x1 = addf k0_pay1 (cell (blockSum x0 x1)) := by
  unfold out0_A_2
  rw [View.read_writes_eq_canon _ _ _ (cover0_A_2 c i a2 h2 a3 h3 a4 h4 hc x0 x1)]
  unfold kernelRun0_A
  dsimp only
  rw [View.canon_cons_unit_zero (S := S1x1) offsets_zero]
  trans k0_pay2
    (cell (sliceSum (fun k h => a2.view.readAt (Elt F) (logitRect k h).toLoadRect (h2.unread x0))
      (fun h => a3.view.readAt (Elt F) (freqRect h).toLoadRect (h3.unread x1)) 8))
    k0_pay1
  · trans k0_pay2
      (cell (sliceSum (fun k h => a2.view.readAt (Elt F) (logitRect k h).toLoadRect (h2.unread x0))
        (fun h => a3.view.readAt (Elt F) (freqRect h).toLoadRect (h3.unread x1)) 8))
      (a4.view.readCov [(⟨Rect.unit (s := S1x1) ![0, 0] S1x1.size inb_S1x1_S1x1_0_0, k0_pay1⟩ :
        View.Piece (Elt F) S1x1 .f32)] (Rect.unit (s := S1x1) ![0, 0] S1x1.size inb_S1x1_S1x1_0_0).toLoadRect)
    · sl_kernel_rfl
    · rw [View.readCov_unit_zero (S := S1x1) _ offsets_zero]
  · unfold k0_pay2 blockSum
    simp only [View.readAt_eq_ld, h2.read_unread, h3.read_unread, shapeCast_self]

end Cert.Proof

end
-- ==== Proof.KernelRun.lean ====
/-
  The kernel's run: the result scalar is the running sum of the sixteen blocks' sums, whatever the float model.
-/
module

public import proofs.«01_k».proof.Proof.Body
public import Idealize.ShloMosaic.Lib.StableHlo.Run
public import Idealize.ShloMosaic.Lib.Pointwise

@[expose] public section

set_option maxRecDepth 16384

noncomputable section

namespace Cert.Proof

open Idealize.ShloMosaic Idealize.ShloMosaic.TcCoe Idealize.SL.Sem
open Idealize.ShloMosaic.Pipeline (Dat)
open Cert.KernelIdeal Cert.KernelIdeal.Gen

variable {F : FTy → Type} [FloatOps F] [Named F]
variable (m : (ℓ : Loc nD τ sig) → Buf (Elt F) ℓ) (ρ : Dev nD → PrngReg)

/-- The sum of the block of the grid point `t`. -/
def pointSum (c : Dev nD) (t : Fin cfg0.N) : F .f32 := blockSum (iblk m c 0 t) (iblk m c 1 t)

/-- The output cell after the points up to `n`: zero, and each point's sum added in turn. -/
def running (c : Dev nD) : (n : ℕ) → n < cfg0.N → Vec F S1x1 .f32
  | 0, h => addf k0_pay1 (cell (pointSum m c ⟨0, h⟩))
  | n + 1, h => addf (running c n (Nat.lt_of_succ_lt h)) (cell (pointSum m c ⟨n + 1, h⟩))

/-- The generated account of the output cell is that running sum. -/
theorem outs_eq (c : Dev nD) : ∀ (n : ℕ) (h : n < cfg0.N), outsAt0 m c n h = running m c n h
  | 0, h => (outsAt0_A m c ⟨0, h⟩ rfl).trans (out_A ..)
  | n + 1, h => by
    have hN : cfg0.N = 16 := N_0
    have hB : ¬(⟨n + 1, h⟩ : Fin cfg0.N).val % 16 = 0 := by dsimp only; omega
    rw [outsAt0_B m c ⟨n + 1, h⟩ hB, out_B]
    show addf (outsAt0 m c n _) _ = addf (running m c n _) _
    rw [outs_eq c n]
    rfl

/-- The output cell at the end. -/
abbrev lastCell (c : Dev nD) : Buf (Elt F) ((c : Thread nD τ).loc main_call0_v1) :=
  running m c 15 (by rw [show cfg0.N = 16 from N_0]; decide)

/-- The one write-back, at the last point, writes that cell. -/
theorem flushed_eq (c : Dev nD) (t : Fin cfg0.N) (hf : (cfg0.win 2).flush t = true) :
    (dats m 0 c).flushed 2 t = ((cfg0.win 2).blk t).view.read (Elt F) (lastCell m c) := by
  have hN : cfg0.N = 16 := N_0
  have h3 : t.val = 15 := by have := (flush0_2 t).mp hf; have := t.isLt; omega
  obtain rfl : t = t0_15 := Fin.ext h3
  show (cfg0.win 2).cut (grid0.coords t0_15) ((dats m 0 c).after 2 t0_15) = _
  rw [after0_2, outs_eq]
  have hz' : (fun a => win0_2.index t0_15 a * main_call0_v1.ty.shape.size a) = fun _ => 0 :=
    funext fun a => by fin_cases a <;> decide
  exact (Memref.read_access_unit_zero (Elt F) main_call0_v1 hz' (fun a => by rw [congrFun hz' a]; simp) (lastCell m c)).symm

/-- So the output array ends holding that cell. -/
theorem final_cell (c : Dev nD) : (dats m 0 c).arrAt 2 cfg0.N = lastCell m c :=
  (dats m 0 c).arrAt_eq_of_cover 2 (lastCell m c) (flushed_eq m c) fun i =>
    ⟨t0_15, (flush0_2 t0_15).mpr rfl, by
      show i ∈ ((View.whole main_call0_v1).slice (win0_2.rect t0_15)).set
      rw [View.set_slice_whole, Rect.mem_set_unit]
      intro a
      have h0 : (i 0 : Nat) < 1 := (i 0).isLt
      have h1 : (i 1 : Nat) < 1 := (i 1).isLt
      match a with
      | ⟨0, _⟩ =>
        show win0_2.index t0_15 0 * win0_2.size 0 ≤ (i 0 : Nat)
          ∧ (i 0 : Nat) < win0_2.index t0_15 0 * win0_2.size 0 + win0_2.xsize (grid0.coords t0_15) 0
        rw [show win0_2.index t0_15 0 * win0_2.size 0 = 0 from by decide +kernel,
          show win0_2.xsize (grid0.coords t0_15) 0 = 1 from by decide +kernel]; omega
      | ⟨1, _⟩ =>
        show win0_2.index t0_15 1 * win0_2.size 1 ≤ (i 1 : Nat)
          ∧ (i 1 : Nat) < win0_2.index t0_15 1 * win0_2.size 1 + win0_2.xsize (grid0.coords t0_15) 1
        rw [show win0_2.index t0_15 1 * win0_2.size 1 = 0 from by decide +kernel,
          show win0_2.xsize (grid0.coords t0_15) 1 = 1 from by decide +kernel]; omega⟩

/-- The result scalar: the last cell's one entry. -/
def result (c : Dev nD) : Buf (Elt F) ((c : Thread nD τ).loc main_v0) :=
  shapeCast S_ (lastCell m c) shapeCasts_S1x1_S_

/-- The host line after the region takes the cell's entry out. -/
theorem tail_eq (c : Dev nD) :
    Pipeline.afterTail₀ cfgs (dats m) 0 (V0 m) [hostOps1] c main_v0 = result m c := by
  unfold Pipeline.afterTail₀
  simp only [hostOps1, List.flatten_cons, List.flatten_nil, List.append_nil, StableHlo.after_cons, StableHlo.after_nil]
  refine (StableHlo.reshape_result main_call0_v1 main_v0 _ _ _ _ _).trans ?_
  have h := Pipeline.withArrays_arr spec0 (by decide) c (V0 m c) (fun w => (dats m 0 c).arrAt w cfg0.N) 2
  funext i
  show shapeCast S_ (Pipeline.withArrays spec0 c (V0 m c) (fun w => (dats m 0 c).arrAt w cfg0.N)
    (Proc.devRef .tc (Pipeline.arrRef spec0 2))) shapeCasts_S1x1_S_ i = _
  rw [h, final_cell]
  rfl

/-- The run, read: the result at that scalar, the arguments as launched. -/
theorem kernel_run : θ_run defs (onTc (τ := τ) (main (F := F))) ⟨m, fun _ => 0, ρ⟩ fun r => ∀ c : Dev nD,
      r.2.mem ((c.tc : Thread nD τ).loc main_v0) = result m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
      ⟨((h.1 c).2 main_v0 (Pipeline.mem_restRefs_of main_v0 (by decide) (by decide))).trans (tail_eq m c), h.2 c⟩)
    (θ_run_and (run_main m ρ) (unchanged m ρ))

/-! ## The blocks as entries of the arguments -/

/-- Where the two inputs' blocks start, in blocks. -/
theorem block_index : ∀ t : Fin cfg0.N,
    win0_0.index t (0 : Fin 3) = 0 ∧ win0_0.index t (1 : Fin 3) = t.val / 2 ∧ win0_0.index t (2 : Fin 3) = t.val % 2
      ∧ win0_1.index t (0 : Fin 2) = t.val / 2 ∧ win0_1.index t (1 : Fin 2) = t.val % 2 := by
  decide +kernel

/-- The transposed logits the region finds. -/
theorem region_logits (c : Dev nD) :
    V m c main_call0_v0
      = transpose S50x64x8192 [2, 0, 1] (m ((c : Thread nD τ).loc main_arg0)) transposes_S64x8192x50_S50x64x8192_2_0_1 := by
  show StableHlo.after (List.flatten [hostOps0]) (fun b => m (c, b)) (Proc.devRef .tc main_call0_v0) = _
  simp only [hostOps0, List.flatten_cons, List.flatten_nil, List.append_nil, StableHlo.after_cons, StableHlo.after_nil]
  exact StableHlo.unary_result main_arg0 main_call0_v0 _ _ _ _

/-- Grid point `t` holds batch rows `8 (t / 2)` on and positions `4096 (t % 2)` on, and every bin. -/
theorem logits_block (c : Dev nD) (t : Fin cfg0.N) (k : Fin 50) (r : Fin 8) (l : Fin 4096) :
    iblk m c 0 t (ix3 k r l)
      = m ((c : Thread nD τ).loc main_arg0)
          (ix3 (n0 := 64) (n1 := 8192) (n2 := 50)
            ⟨8 * (t.val / 2) + r, by have := t.isLt; have : cfg0.N = 16 := N_0; omega⟩
            ⟨4096 * (t.val % 2) + l, by omega⟩ k) := by
  obtain ⟨h0, h1, h2, -, -⟩ := block_index t
  unfold iblk
  rw [View.read_apply]
  show V m c main_call0_v0 _ = _
  rw [region_logits]
  show m ((c : Thread nD τ).loc main_arg0) _ = _
  congr 1
  funext a
  apply Fin.ext
  match a with
  | ⟨0, _⟩ => show win0_0.index t (1 : Fin 3) * 8 + 1 * (r : ℕ) = 8 * (t.val / 2) + r; rw [h1]; omega
  | ⟨1, _⟩ => show win0_0.index t (2 : Fin 3) * 4096 + 1 * (l : ℕ) = 4096 * (t.val % 2) + l; rw [h2]; omega
  | ⟨2, _⟩ => show win0_0.index t (0 : Fin 3) * 50 + 1 * (k : ℕ) = k; rw [h0]; omega

/-- The same for the frequencies. -/
theorem freqs_block (c : Dev nD) (t : Fin cfg0.N) (r : Fin 8) (l : Fin 4096) :
    iblk m c 1 t (ix2 r l)
      = m ((c : Thread nD τ).loc main_arg1)
          (ix2 (n0 := 64) (n1 := 8192)
            ⟨8 * (t.val / 2) + r, by have := t.isLt; have : cfg0.N = 16 := N_0; omega⟩
            ⟨4096 * (t.val % 2) + l, by omega⟩) := by
  obtain ⟨-, -, -, h0, h1⟩ := block_index t
  unfold iblk
  rw [View.read_apply]
  show V m c main_arg1 _ = _
  rw [V_main_arg1]
  congr 1
  funext a
  apply Fin.ext
  match a with
  | ⟨0, _⟩ => show win0_1.index t (0 : Fin 2) * 8 + 1 * (r : ℕ) = 8 * (t.val / 2) + r; rw [h0]; omega
  | ⟨1, _⟩ => show win0_1.index t (1 : Fin 2) * 4096 + 1 * (l : ℕ) = 4096 * (t.val % 2) + l; rw [h1]; omega

end Cert.Proof

end
-- ==== Proof.KernelSum.lean ====
/-
  The kernel's result in the extended reals: with real logits it is the sum of all lanes' losses.
-/
module

public import proofs.«01_k».proof.Proof.KernelLane
public import proofs.«01_k».proof.Proof.KernelRun
public import Idealize.ShloMosaic.Lib.Pipeline.ValueKit.Acc
public import Idealize.ShloMosaic.Lib.Pipeline.ValueKit.Tiles
public import Idealize.ShloMosaic.PureOps.Ideal.Laws

@[expose] public section

set_option maxRecDepth 16384

noncomputable section

namespace Cert.Proof

open Idealize.ShloMosaic Idealize.ShloMosaic.TcCoe Cert.KernelIdeal Cert.KernelIdeal.Gen

/-- The sum of a plane is the sum over its rows and lanes. -/
theorem planeSum_apply (v : FVec Ideal S8x512 .f32) : planeSum v = ∑ r : Fin 8, ∑ l : Fin 512, v (ix2 r l) := by
  have hflat (a : Fin 1) (r : Fin 8) (l : Fin 512) :
      shapeCast S1x8x512 v shapeCasts_S8x512_S1x8x512 (ix3 a r l) = v (ix2 r l) := by
    pointwise
  have htotal : planeSum v = ∑ i : S1x8x512.Idx, shapeCast S1x8x512 v shapeCasts_S8x512_S1x8x512 i :=
    Ideal.multiReduction_add_total (φ := .f32) _ 0x00000000#32 reduces_S1x8x512_S1 (by decide) (.inl rfl) rfl _
  rw [htotal, sum_idx3]
  simp only [hflat]
  simp

/-- A real lane loss at each place of a slice gives the slice's sum. -/
theorem planeSum_real {v : FVec Ideal S8x512 .f32} {f : Fin 8 → Fin 512 → ℝ}
    (hv : ∀ r l, v (ix2 r l) = ((f r l : ℝ) : EReal)) : planeSum v = ((∑ r, ∑ l, f r l : ℝ) : EReal) := by
  rw [planeSum_apply]
  simp only [hv, coe_sum]

section Block
variable {x0 : Vec Ideal S50x8x4096 .f32} {X : S50x8x4096.Idx → ℝ} (x1 : Vec Ideal S8x4096 .f32)
variable (hX : ∀ k r l, x1 (ix2 r l) ≠ ((-1 : ℝ) : EReal) → x0 (ix3 k r l) = ((X (ix3 k r l) : ℝ) : EReal))

/-- The loss of a block's lane. -/
def blockLane (X : S50x8x4096.Idx → ℝ) (x1 : Vec Ideal S8x4096 .f32) (r : Fin 8) (l : Fin 4096) : ℝ :=
  laneReal (fun k => X (ix3 (⟨min k 49, by omega⟩ : Fin 50) r l)) (x1 (ix2 r l))

include hX in
/-- A slice's sum of lane losses. -/
theorem slice_apply (h : ℕ) (hh : h < 8) :
    planeSum (laneLoss (fun k => plane (View.ld x0 (logitRect k h))) (View.ld x1 (freqRect h)))
      = ((∑ r : Fin 8, ∑ l : Fin 512, blockLane X x1 r ⟨h * 512 + l, by omega⟩ : ℝ) : EReal) := by
  refine planeSum_real fun r l => ?_
  have hfreq : View.ld x1 (freqRect h) (ix2 r l) = x1 (ix2 r (⟨h * 512 + l, by omega⟩ : Fin 4096)) := by
    refine View.ld_unit_apply_of _ _ _ _ _ _ fun a => ?_
    match a with
    | ⟨0, _⟩ => show r.val = 0 + r.val; omega
    | ⟨1, _⟩ => show h * 512 + l.val = 512 * min h 7 + l.val; omega
  have hlogit (hg : View.ld x1 (freqRect h) (ix2 r l) ≠ ((-1 : ℝ) : EReal)) (k : ℕ) :
      plane (View.ld x0 (logitRect k h)) (ix2 r l)
        = ((X (ix3 (⟨min k 49, by omega⟩ : Fin 50) r (⟨h * 512 + l, by omega⟩ : Fin 4096)) : ℝ) : EReal) := by
    have hcast : plane (View.ld x0 (logitRect k h)) (ix2 r l) = View.ld x0 (logitRect k h) (ix3 0 r l) := by
      unfold plane; pointwise
    rw [hcast, ← hX _ _ _ (hfreq ▸ hg)]
    refine View.ld_unit_apply_of _ _ _ _ _ _ fun a => ?_
    match a with
    | ⟨0, _⟩ => show min k 49 = min k 49 + 0; omega
    | ⟨1, _⟩ => show r.val = 0 + r.val; omega
    | ⟨2, _⟩ => show h * 512 + l.val = 512 * min h 7 + l.val; omega
  rw [laneLoss_apply _ hlogit, hfreq]
  rfl

include hX in
/-- The sum over the first slices. -/
theorem slices_apply : ∀ (n : ℕ) (hn : n ≤ 8),
    sliceSum (fun k h => View.ld x0 (logitRect k h)) (fun h => View.ld x1 (freqRect h)) n
      = ((∑ h : Fin n, ∑ r : Fin 8, ∑ l : Fin 512, blockLane X x1 r ⟨h * 512 + l, by omega⟩ : ℝ) : EReal)
  | 0, _ => by
    show Ideal.ofBits .f32 0x00000000#32 = _
    rw [Ideal.ofBits_zero_f32]; simp
  | n + 1, hn => by
    show sliceSum (fun k h => View.ld x0 (logitRect k h)) (fun h => View.ld x1 (freqRect h)) n
      + planeSum (laneLoss (fun k => plane (View.ld x0 (logitRect k n))) (View.ld x1 (freqRect n))) = _
    rw [slices_apply n (by omega), slice_apply x1 hX n (by omega), ← EReal.coe_add]
    exact congrArg _ (Fin.sum_univ_castSucc fun h : Fin (n + 1) =>
      ∑ r : Fin 8, ∑ l : Fin 512, blockLane X x1 r ⟨h * 512 + l, by omega⟩).symm

include hX in
/-- A block's sum is the sum of its lanes' losses. -/
theorem blockSum_apply : blockSum x0 x1 = ((∑ r : Fin 8, ∑ l : Fin 4096, blockLane X x1 r l : ℝ) : EReal) := by
  unfold blockSum
  rw [slices_apply x1 hX 8 le_rfl, Finset.sum_comm]
  congr 1
  exact Finset.sum_congr rfl fun r _ => Fin.sum_mul_add_fin 8 512 (blockLane X x1 r)

end Block

variable (m : (ℓ : Loc nD τ sig) → Buf (Elt Ideal) ℓ) (c : Dev nD)
variable {X : S64x8192x50.Idx → ℝ} (hX : ∀ b s n, (m ((c : Thread nD τ).loc main_arg1) : S64x8192.Idx → EReal) (ix2 b s) ≠ ((-1 : ℝ) : EReal) →
  (m ((c : Thread nD τ).loc main_arg0) : S64x8192x50.Idx → EReal) (ix3 b s n) = ((X (ix3 b s n) : ℝ) : EReal))

/-- The loss of lane `s` of row `b` of the batch, from the logits and the frequencies. -/
def lane (X : S64x8192x50.Idx → ℝ) (G : S64x8192.Idx → EReal) (b : Fin 64) (s : Fin 8192) : ℝ :=
  laneReal (fun k => X (ix3 b s (⟨min k 49, by omega⟩ : Fin 50))) (G (ix2 b s))

include hX in
/-- The block at a grid point. -/
theorem pointSum_apply (t : Fin cfg0.N) (ht : t.val < 16) :
    pointSum m c t = ((∑ r : Fin 8, ∑ l : Fin 4096,
      lane X (m ((c : Thread nD τ).loc main_arg1)) ⟨t / 2 * 8 + r, by omega⟩ ⟨t % 2 * 4096 + l, by omega⟩ : ℝ) : EReal) := by
  unfold pointSum
  rw [blockSum_apply (X := fun i => X (ix3 (n0 := 64) (n1 := 8192) (n2 := 50)
      ⟨8 * (t / 2) + (i 1 : Fin 8).val, by have : (i 1).val < 8 := (i 1).isLt; show 8 * (t.val / 2) + (i 1).val < 64; omega⟩
      ⟨4096 * (t % 2) + (i 2 : Fin 4096).val, by have : (i 2).val < 4096 := (i 2).isLt; show 4096 * (t.val % 2) + (i 2).val < 8192; omega⟩ (i 0))) _ (fun k r l hg => ?_)]
  · congr 1
    refine Finset.sum_congr rfl fun r _ => Finset.sum_congr rfl fun l _ => ?_
    unfold blockLane lane
    rw [freqs_block]
    simp only [Nat.mul_comm 8, Nat.mul_comm 4096]
    rfl
  · rw [freqs_block] at hg
    rw [logits_block, hX _ _ _ hg]
    rfl

include hX in
/-- The running sum after the first points. -/
theorem running_apply (j : S1x1.Idx) : ∀ (n : ℕ) (h : n < cfg0.N) (hn : n < 16),
    running m c n h j = ((∑ t : Fin (n + 1), ∑ r : Fin 8, ∑ l : Fin 4096,
      lane X (m ((c : Thread nD τ).loc main_arg1)) ⟨t / 2 * 8 + r, by omega⟩ ⟨t % 2 * 4096 + l, by omega⟩ : ℝ) : EReal)
  | 0, h, hn => by
    show Ideal.ofBits .f32 0x00000000#32 + pointSum m c ⟨0, h⟩ = _
    rw [Ideal.ofBits_zero_f32, zero_add, pointSum_apply m c hX ⟨0, h⟩ hn]
    simp
  | n + 1, h, hn => by
    show running m c n _ j + pointSum m c ⟨n + 1, h⟩ = _
    rw [running_apply j n _ (by omega), pointSum_apply m c hX ⟨n + 1, h⟩ hn, ← EReal.coe_add,
      Fin.sum_univ_castSucc (n := n + 1)]
    rfl

/-- The points' blocks cover the batch once. -/
theorem sum_points (f : Fin 64 → Fin 8192 → ℝ) :
    ∑ t : Fin 16, ∑ r : Fin 8, ∑ l : Fin 4096, f ⟨t / 2 * 8 + r, by omega⟩ ⟨t % 2 * 4096 + l, by omega⟩
      = ∑ b : Fin 64, ∑ s : Fin 8192, f b s := by
  have h1 := Fin.sum_divmod_fin (N := 16) (A := 8) 2 (fun a s => ∑ r : Fin 8, ∑ l : Fin 4096,
    f ⟨a * 8 + r, by omega⟩ ⟨s * 4096 + l, by omega⟩)
  have h2 (b : Fin 64) := Fin.sum_mul_add_fin 2 4096 (f b) (by norm_num)
  have h3 := Fin.sum_mul_add_fin 8 8 (fun b => ∑ s : Fin 8192, f b s) (by norm_num)
  refine h1.trans (Eq.trans (Finset.sum_congr rfl fun a _ => ?_) h3)
  rw [Finset.sum_comm]
  exact Finset.sum_congr rfl fun r _ => h2 _

include hX in
/-- The kernel's result is the sum of all lanes' losses. -/
theorem result_apply (i : S_.Idx) :
    result m c i = ((∑ b : Fin 64, ∑ s : Fin 8192, lane X (m ((c : Thread nD τ).loc main_arg1)) b s : ℝ) : EReal) := by
  rw [← sum_points]
  exact running_apply m c hX _ 15 _ (by decide)

end Cert.Proof

end
-- ==== Proof.RefRow.lean ====
/-
  The reference's blurred one-hot rows, read at an index in the extended reals.
-/
module

public import proofs.«01_k».proof.Proof.Scalars
public import proofs.«01_k».proof.Proof.Gen.ReferenceIdeal.Read

@[expose] public section

set_option maxRecDepth 16384

noncomputable section

namespace Cert.Proof

open Idealize.ShloMosaic Cert.ReferenceIdeal Cert.ReferenceIdeal.Gen Cert.ReferenceIdeal.Read

/-- The comparison "differs" of extended reals, at equal and at different ones. -/
theorem cmp_une_of_eq {x y : EReal} (h : x = y) : Ideal.cmp .une x y = 0#1 := by
  unfold Ideal.cmp; dsimp only; rw [decide_eq_false (not_not.mpr h)]; rfl

/-- The comparison for inequality is true of different values. -/
theorem cmp_une_of_ne {x y : EReal} (h : x ≠ y) : Ideal.cmp .une x y = 1#1 := by
  unfold Ideal.cmp; dsimp only; rw [decide_eq_true h]; rfl

variable (g : FVec Ideal S64x8192 .f32) (b : Fin 64) (s : Fin 8192)

/-- Whether a lane's frequency is given. -/
theorem valid_apply : val_main_v8 (F := Ideal) g (ix2 b s) = Ideal.cmp .une (g (ix2 b s)) ((-1 : ℝ) : EReal) := by
  rw [← word_neg_one]
  pointwise [val_main_v8, val_main_v7, val_main_cst_2]

/-- The reference's target bin. -/
theorem refBin_apply : val_main_v6 (F := Ideal) g (ix2 b s) = bin (g (ix2 b s)) := by
  unfold bin
  rw [← word_fifty, ← Ideal.ofBits_zero_f32]
  rfl

/-- The one-hot row, zero where the frequency is not given. -/
theorem oneHot_apply (n : Fin 50) : val_main_v11 (F := Ideal) g (ix3 b s n)
    = (((if g (ix2 b s) = ((-1 : ℝ) : EReal) then 0 else if (bin (g (ix2 b s))).toNat = n then 1 else 0 : ℝ)) : EReal) := by
  have h : val_main_v11 (F := Ideal) g (ix3 b s n) = Scalar.select (val_main_v8 (F := Ideal) g (ix2 b s))
      ((((IntOp.cmpi .eq (val_main_v6 (F := Ideal) g (ix2 b s)) (BitVec.ofNat 32 n)).toNat : ℝ)) : EReal)
      (val_main_call2_v2 (F := Ideal) (ix3 b s n)) := by
    pointwise [val_main_v11, val_main_call2_v1, val_main_v10, val_main_v9, val_main_call1_v4, val_main_call1_v2,
      val_main_call1_v0, val_main_call1_v3, val_main_call1_v1]
    rfl
  rw [h, valid_apply, refBin_apply, show val_main_call2_v2 (F := Ideal) (ix3 b s n) = 0 from Ideal.ofBits_zero_f32]
  by_cases hg : g (ix2 b s) = ((-1 : ℝ) : EReal)
  · rw [if_pos hg, cmp_une_of_eq hg]; rfl
  · rw [if_neg hg, cmp_une_of_ne hg]
    by_cases hn : (bin (g (ix2 b s))).toNat = n
    · rw [if_pos hn, (bin_eq_iff _ n n.isLt).mpr hn,
        show IntOp.cmpi .eq (BitVec.ofNat 32 n) (BitVec.ofNat 32 n) = 1#1 by simp [IntOp.cmpi]]
      show ((((1#1 : BitVec 1).toNat : ℝ)) : EReal) = _
      norm_num
    · rw [if_neg hn, show IntOp.cmpi .eq (bin (g (ix2 b s))) (BitVec.ofNat 32 n) = 0#1 by
        unfold IntOp.cmpi; dsimp only
        rw [beq_eq_false_iff_ne.mpr fun he => hn ((bin_eq_iff _ n n.isLt).mp he)]; rfl]
      show ((((0#1 : BitVec 1).toNat : ℝ)) : EReal) = _
      norm_num

/-- Padding a row by reflection, at any position. -/
theorem pad_apply (y : FVec Ideal S64x8192x50 .f32) (j : Fin 54) :
    concatenate S64x8192x54 2 [⟨S64x8192x52, concatenate S64x8192x52 2 [⟨S64x8192x2, Host.reverse [2]
      (extractStridedSlice S64x8192x2 ![0, 0, 1] y slices_S64x8192x50_S64x8192x2_0_0_1)⟩, ⟨S64x8192x50, y⟩]
        concatenates_S64x8192x2_S64x8192x50_S64x8192x52_d2⟩, ⟨S64x8192x2, Host.reverse [2]
      (extractStridedSlice S64x8192x2 ![0, 0, 49] (concatenate S64x8192x52 2 [⟨S64x8192x2, Host.reverse [2]
      (extractStridedSlice S64x8192x2 ![0, 0, 1] y slices_S64x8192x50_S64x8192x2_0_0_1)⟩, ⟨S64x8192x50, y⟩]
        concatenates_S64x8192x2_S64x8192x50_S64x8192x52_d2) slices_S64x8192x52_S64x8192x2_0_0_49)⟩]
          concatenates_S64x8192x52_S64x8192x2_S64x8192x54_d2 (ix3 b s j)
      = y (ix3 b s ⟨mirrored j, by unfold mirrored; split_ifs <;> omega⟩) := by
  pointwise
  have hj := j.isLt
  have e0 : (0 : Fin 3) ∉ [(2 : Fin 3)] := by decide
  have e1 : (1 : Fin 3) ∉ [(2 : Fin 3)] := by decide
  have e2 : (2 : Fin 3) ∈ [(2 : Fin 3)] := by decide
  by_cases h52 : j.val < 52
  · rw [dif_pos h52]
    by_cases h2 : j.val < 2
    · rw [dif_pos h2]
      refine congrArg y ((ix3_inj _ _ _ _ _ _).mpr ⟨if_neg e0, if_neg e1, Fin.ext ?_⟩)
      refine (congrArg (fun t : Fin 2 => 1 + t.val) (if_pos e2)).trans ?_
      show 1 + (2 - (j.val + 1)) = mirrored j
      unfold mirrored; rw [if_pos h2]; omega
    · rw [dif_neg h2]
      congr 2
      apply Fin.ext; unfold mirrored; dsimp only; rw [if_neg h2, if_pos h52]
  · rw [dif_neg h52, dif_neg (by omega)]
    refine congrArg y ((ix3_inj _ _ _ _ _ _).mpr ⟨if_neg e0, if_neg e1, Fin.ext ?_⟩)
    refine (congrArg (fun t : Fin 2 => 49 + t.val - 2) (if_pos e2)).trans ?_
    show 49 + (2 - (j.val - 52 + 1)) - 2 = mirrored j
    unfold mirrored; rw [if_neg (by omega), if_neg h52]; omega

/-- The padded row at a position: one where the mirrored position is the target bin of a given frequency. -/
theorem padded_apply (j : Fin 54) : val_main_v12 (F := Ideal) g (ix3 b s j)
    = (((if g (ix2 b s) = ((-1 : ℝ) : EReal) then 0 else if (bin (g (ix2 b s))).toNat = mirrored j then 1 else 0 : ℝ)) : EReal) :=
  (pad_apply b s (val_main_v11 (F := Ideal) g) j).trans (oneHot_apply g b s _)

/-- The blurred row, before small weights are dropped. -/
def rawReal (g : EReal) (n : ℕ) : ℝ := if g = ((-1 : ℝ) : EReal) then 0 else weight (rawTap (bin g).toNat n)

/-- The reference's blurred row. -/
theorem raw_apply (n : Fin 50) :
    val_main_v33 (F := Ideal) g (ix3 b s n) = ((rawReal (g (ix2 b s)) n : ℝ) : EReal) := by
  have h : val_main_v33 (F := Ideal) g (ix3 b s n)
      = Ideal.ofBits .f32 0x00000000#32
        + Ideal.ofBits .f32 0x398A575F#32 * val_main_v12 (F := Ideal) g (ix3 b s ⟨n, by omega⟩)
        + Ideal.ofBits .f32 0x3DDA02DD#32 * val_main_v12 (F := Ideal) g (ix3 b s ⟨1 + n, by omega⟩)
        + Ideal.ofBits .f32 0x3F495CB3#32 * val_main_v12 (F := Ideal) g (ix3 b s ⟨2 + n, by omega⟩)
        + Ideal.ofBits .f32 0x3DDA02DD#32 * val_main_v12 (F := Ideal) g (ix3 b s ⟨3 + n, by omega⟩)
        + Ideal.ofBits .f32 0x398A575F#32 * val_main_v12 (F := Ideal) g (ix3 b s ⟨4 + n, by omega⟩) := by
    pointwise [val_main_v33, val_main_v29, val_main_v25, val_main_v21, val_main_v17, val_main_v13, val_main_v16,
      val_main_v20, val_main_v24, val_main_v28, val_main_v32, val_main_v15, val_main_v19, val_main_v23, val_main_v27,
      val_main_v31, val_main_v14, val_main_v18, val_main_v22, val_main_v26, val_main_v30, val_main_cst_5, val_main_cst_6,
      val_main_cst_7, val_main_cst_8, val_main_cst_9, val_main_cst_10]
  rw [h]
  simp only [padded_apply, word_outer, word_inner, word_middle, Ideal.ofBits_zero_f32, zero_add, ← EReal.coe_mul,
    ← EReal.coe_add]
  congr 1
  unfold rawReal
  by_cases hg : g (ix2 b s) = ((-1 : ℝ) : EReal)
  · simp only [if_pos hg]; ring
  · simp only [if_neg hg]
    unfold weight rawTap hit
    simp only [Nat.add_comm n.val]
    push_cast
    simp only [mul_ite, mul_one, mul_zero, add_div, ite_div, zero_div]

end Cert.Proof

end
-- ==== Proof.RefSum.lean ====
/-
  The reference's result in the extended reals: with real logits it is the sum of all lanes' losses.
-/
module

public import proofs.«01_k».proof.Proof.RefRow
public import proofs.«01_k».proof.Proof.KernelSum

@[expose] public section

set_option maxRecDepth 16384

noncomputable section

namespace Cert.Proof

open Idealize.ShloMosaic Cert.ReferenceIdeal Cert.ReferenceIdeal.Gen Cert.ReferenceIdeal.Read

/-- Weights are not negative. -/
theorem weight_nonneg (k : ℕ) : 0 ≤ weight k := by unfold weight; positivity

/-- A target where the frequency is given, and −1 where it is not. -/
def targetReal (g : EReal) (z : ℝ) : ℝ := if g = ((-1 : ℝ) : EReal) then -1 else z

/-- Choosing between a row and −1 by whether the frequency is given. -/
theorem select_target (g : EReal) (z : ℝ) : Scalar.select (Ideal.cmp .une g ((-1 : ℝ) : EReal)) ((z : ℝ) : EReal)
    ((-1 : ℝ) : EReal) = ((targetReal g z : ℝ) : EReal) := by
  unfold targetReal
  by_cases hg : g = ((-1 : ℝ) : EReal)
  · rw [if_pos hg, cmp_une_of_eq hg]; rfl
  · rw [if_neg hg, cmp_une_of_ne hg]; rfl

/-- The mask read off a target: a target that is no marker is at least zero. -/
theorem mask_target (g : EReal) {z : ℝ} (hz : 0 ≤ z) :
    ((((Ideal.cmp .une ((targetReal g z : ℝ) : EReal) ((-1 : ℝ) : EReal)).toNat : ℝ)) : EReal) = ((maskReal g : ℝ) : EReal) := by
  unfold targetReal maskReal
  by_cases hg : g = ((-1 : ℝ) : EReal)
  · rw [if_pos hg, if_pos hg, cmp_une_of_eq rfl]; norm_num
  · rw [if_neg hg, if_neg hg, cmp_une_of_ne fun h => by have := EReal.coe_injective h; linarith]; norm_num

/-- The blurred row with small weights dropped. -/
def keptReal (g : EReal) (n : ℕ) : ℝ := if g = ((-1 : ℝ) : EReal) then 0 else weight (keptTap (bin g).toNat n)

/-- A weight that is kept is not negative. -/
theorem keptReal_nonneg (g : EReal) (n : ℕ) : 0 ≤ keptReal g n := by
  unfold keptReal; split
  · exact le_rfl
  · exact weight_nonneg _

/-- A blurred weight is not negative. -/
theorem rawReal_nonneg (g : EReal) (n : ℕ) : 0 ≤ rawReal g n := by
  unfold rawReal; split
  · exact le_rfl
  · exact weight_nonneg _

/-- Dropping the weights below a thousandth. -/
theorem select_kept (g : EReal) (n : ℕ) :
    Scalar.select (Ideal.cmp .olt ((rawReal g n : ℝ) : EReal) ((34359740 / 34359738368 : ℝ) : EReal)) (0 : EReal)
      ((rawReal g n : ℝ) : EReal) = ((keptReal g n : ℝ) : EReal) := by
  have hcmp (x y : ℝ) : Ideal.cmp .olt ((x : ℝ) : EReal) ((y : ℝ) : EReal) = if x < y then 1#1 else 0#1 := by
    unfold Ideal.cmp; dsimp only; simp only [EReal.coe_lt_coe_iff]
    by_cases h : x < y
    · rw [if_pos h, decide_eq_true h]; rfl
    · rw [if_neg h, decide_eq_false h]; rfl
  rw [hcmp]
  unfold rawReal keptReal keptTap
  by_cases hg : g = ((-1 : ℝ) : EReal)
  · rw [if_pos hg, if_pos hg, if_pos (by norm_num)]; rfl
  · rw [if_neg hg, if_neg hg]
    have hlt : weight (rawTap (bin g).toNat n) < 34359740 / 34359738368 ↔ rawTap (bin g).toNat n < 34359740 := by
      unfold weight
      rw [div_lt_div_iff_of_pos_right (by norm_num)]
      exact_mod_cast Iff.rfl
    by_cases h : rawTap (bin g).toNat n < 34359740
    · rw [if_pos (hlt.mpr h), if_pos h]
      show (0 : EReal) = _
      simp [weight]
    · rw [if_neg (mt hlt.mp h), if_neg h]; rfl

variable {x : FVec Ideal S64x8192x50 .f32} {X : S64x8192x50.Idx → ℝ} (g : FVec Ideal S64x8192 .f32)
variable (hX : ∀ b s n, g (ix2 b s) ≠ ((-1 : ℝ) : EReal) → x (ix3 b s n) = ((X (ix3 b s n) : ℝ) : EReal))
variable (b : Fin 64) (s : Fin 8192) (n : Fin 50)

/-- The reference's targets. -/
theorem target_apply : val_main_v38 (F := Ideal) g (ix3 b s n)
    = ((targetReal (g (ix2 b s)) (keptReal (g (ix2 b s)) n) : ℝ) : EReal) := by
  have h : val_main_v38 (F := Ideal) g (ix3 b s n) = Scalar.select (val_main_v8 (F := Ideal) g (ix2 b s))
      (Scalar.select (Ideal.cmp .olt (val_main_v33 (F := Ideal) g (ix3 b s n)) (Ideal.ofBits .f32 0x3A83126F#32))
        (Ideal.ofBits .f32 0x00000000#32) (val_main_v33 (F := Ideal) g (ix3 b s n)))
      (Ideal.ofBits .f32 0xBF800000#32) := by
    have hv : val_main_call5_v1 (F := Ideal) g (ix3 b s n) = val_main_v8 (F := Ideal) g (ix2 b s) := by
      pointwise [val_main_call5_v1, val_main_v37]
    rw [← hv]; rfl
  rw [h, valid_apply, raw_apply, word_cut, word_neg_one, Ideal.ofBits_zero_f32, select_kept, select_target]

/-- The reference's mask. -/
theorem mask_apply : val_main_v41 (F := Ideal) g (ix3 b s n) = ((maskReal (g (ix2 b s)) : ℝ) : EReal) := by
  show ((((Ideal.cmp .une (val_main_v38 (F := Ideal) g (ix3 b s n)) (Ideal.ofBits .f32 0xBF800000#32)).toNat : ℝ)) : EReal) = _
  rw [target_apply, word_neg_one]
  exact mask_target _ (keptReal_nonneg _ _)

/-- The reference's exp(-|x|), at a real logit. -/
theorem decay_apply {i : S64x8192x50.Idx} {r : ℝ} (hx : x i = ((r : ℝ) : EReal)) :
    val_main_v44 (F := Ideal) x i = ((decay r : ℝ) : EReal) := by
  show Ideal.exp (-(max (x i) (-(x i)))) = _
  rw [hx, abs_coe, ← EReal.coe_neg, Ideal.exp_coe]
  rfl

/-- One term of the reference's sum. -/
def termReal (x : ℝ) (g : EReal) (n : ℕ) : ℝ :=
  maskReal g * (max x 0 - x * targetReal g (keptReal g n) + logPoly (decay x))

include hX in
/-- The reference's terms, where the logits are real or no frequency is given. -/
theorem term_apply : val_main_v67 (F := Ideal) x g (ix3 b s n)
    = ((termReal (X (ix3 b s n)) (g (ix2 b s)) n : ℝ) : EReal) := by
  have h : val_main_v67 (F := Ideal) x g (ix3 b s n) = val_main_v41 (F := Ideal) g (ix3 b s n) *
      (max (x (ix3 b s n)) (Ideal.ofBits .f32 0x00000000#32) - x (ix3 b s n) * val_main_v38 (F := Ideal) g (ix3 b s n)
        + (Ideal.ofBits .f32 0x3F7F43A0#32 * val_main_v44 (F := Ideal) x (ix3 b s n)
          - Ideal.ofBits .f32 0x3EF0A613#32 * (val_main_v44 (F := Ideal) x (ix3 b s n) * val_main_v44 (F := Ideal) x (ix3 b s n))
          + Ideal.ofBits .f32 0x3E65B89A#32 * (val_main_v44 (F := Ideal) x (ix3 b s n) * val_main_v44 (F := Ideal) x (ix3 b s n)
            * val_main_v44 (F := Ideal) x (ix3 b s n))
          - Ideal.ofBits .f32 0x3D6F5465#32 * (val_main_v44 (F := Ideal) x (ix3 b s n) * val_main_v44 (F := Ideal) x (ix3 b s n)
            * val_main_v44 (F := Ideal) x (ix3 b s n) * val_main_v44 (F := Ideal) x (ix3 b s n)))) := rfl
  rw [h, mask_apply]
  by_cases hg : g (ix2 b s) = ((-1 : ℝ) : EReal)
  · unfold termReal
    rw [show maskReal (g (ix2 b s)) = 0 from if_pos hg, EReal.coe_zero, zero_mul, zero_mul, EReal.coe_zero]
  have hx := hX b s n hg
  rw [target_apply, decay_apply hx, hx, word_P0, word_P1_neg, word_P2, word_P3_neg,
    Ideal.ofBits_zero_f32, ← EReal.coe_zero, ← EReal.coe_strictMono.monotone.map_max]
  simp only [← EReal.coe_mul, ← EReal.coe_add, ← EReal.coe_sub]
  congr 1
  unfold termReal logPoly
  ring

/-- The terms of a lane add up to the lane's loss. -/
theorem sum_term (X : S64x8192x50.Idx → ℝ) (G : S64x8192.Idx → EReal) :
    ∑ n : Fin 50, termReal (X (ix3 b s n)) (G (ix2 b s)) n = lane X G b s := by
  unfold termReal lane laneReal
  rw [← Finset.mul_sum]
  by_cases hg : G (ix2 b s) = ((-1 : ℝ) : EReal)
  · rw [show maskReal (G (ix2 b s)) = 0 from if_pos hg, zero_mul, zero_mul]
  · congr 1
    have hrow (n : Fin 50) : (⟨min n.val 49, by omega⟩ : Fin 50) = n := Fin.ext (by show min n.val 49 = n.val; omega)
    rw [← sum_keptTap _ (⟨(bin (G (ix2 b s))).toNat, bin_lt _⟩ : Fin 50), Finset.sum_range, ← Finset.sum_sub_distrib]
    refine Finset.sum_congr rfl fun n _ => ?_
    unfold targetReal keptReal softReal
    rw [if_neg hg, if_neg hg]
    simp only [hrow]
    ring

include hX in
/-- The reference's result is the sum of all lanes' losses. -/
theorem reference_apply (i : S_.Idx) :
    val_main_v68 (F := Ideal) x g i = ((∑ b : Fin 64, ∑ s : Fin 8192, lane X g b s : ℝ) : EReal) := by
  rw [val_main_v68_apply, show val_main_cst_20 (F := Ideal) (Shape.Idx.first h_S_) = 0 from Ideal.ofBits_zero_f32,
    zero_add, sum_idx3]
  simp only [term_apply g hX, coe_sum, sum_term]

end Cert.Proof

end
-- ==== Proof.Near.lean ====
/-
  How far the kernel's result is from the problem's own: per valid element, the polynomial's error and the weights
  that count as zero.
-/
module

public import proofs.«01_k».proof.Proof.RefSum
public import proofs.«01_k».proof.Pre_finite
public import proofs.«01_k».proof.Post_near

@[expose] public section

set_option maxRecDepth 16384

noncomputable section

namespace Cert.Proof

open Idealize.ShloMosaic Cert.ReferenceIdeal Cert.ReferenceIdeal.Gen Cert.ReferenceIdeal.Read

/-- A value whose absolute value isn't infinite is real. -/
theorem real_of_abs {y : EReal} (h : max y (-y) ≠ ⊤) : y = ((y.toReal : ℝ) : EReal) := by
  refine (EReal.coe_toReal (fun he => h ?_) (fun he => h ?_)).symm
  · rw [he]; simp
  · rw [he]; simp

/-- The precondition says that every logit is real. -/
theorem finite_real [Cert.Pre_finite.Facts] {x : FVec Ideal S64x8192x50 .f32} {g : FVec Ideal S64x8192 .f32}
    (h : Cert.Pre_finite.fn (F := Ideal) x g = fun _ => 1#1) : ∃ X : S64x8192x50.Idx → ℝ, ∀ i, x i = ((X i : ℝ) : EReal) := by
  refine ⟨fun i => (x i).toReal, fun i => ?_⟩
  have hi : Ideal.cmp .olt (max (x i) (-(x i))) (Ideal.ofBits .f32 0x7F800000#32) = 1#1 := congrFun h i
  rw [word_top] at hi
  refine real_of_abs fun he => ?_
  unfold Ideal.cmp at hi
  dsimp only at hi
  rw [decide_eq_false (not_lt.mpr he.ge)] at hi
  exact absurd hi (by decide)

/-- One term of the problem's own sum. -/
def exactTerm (x : ℝ) (g : EReal) (n : ℕ) : ℝ :=
  maskReal g * (max x 0 - x * targetReal g (rawReal g n) + Real.log (1 + decay x))

/-- One term of the bound. -/
def slackTerm (x : ℝ) (g : EReal) : ℝ :=
  maskReal g * (5153961 / 34359738368 + 9105331 / 17179869184 * |x|)

/-- A term of the kernel's sum is within the bound's term of the problem's own. -/
theorem term_near (x : ℝ) (g : EReal) (n : Fin 50) : |termReal x g n - exactTerm x g n| ≤ slackTerm x g := by
  unfold termReal exactTerm slackTerm
  rw [← mul_sub, abs_mul, abs_of_nonneg (maskReal_nonneg g)]
  refine mul_le_mul_of_nonneg_left ?_ (maskReal_nonneg g)
  have hlog := logPoly_near (decay_nonneg x) (decay_le_one x)
  have htap : |targetReal g (rawReal g n) - targetReal g (keptReal g n)| ≤ 9105331 / 17179869184 := by
    unfold targetReal rawReal keptReal
    by_cases hg : g = ((-1 : ℝ) : EReal)
    · simp only [if_pos hg]; norm_num
    · simp only [if_neg hg]
      obtain ⟨h1, h2⟩ := rawTap_bounds (⟨(bin g).toNat, bin_lt g⟩ : Fin 50) n
      have h1' : (keptTap (bin g).toNat n : ℝ) ≤ rawTap (bin g).toNat n := by exact_mod_cast h1
      have h2' : (rawTap (bin g).toNat n : ℝ) ≤ keptTap (bin g).toNat n + 18132670 := by exact_mod_cast h2
      unfold weight
      rw [abs_le]
      constructor <;> linarith
  have hsplit : max x 0 - x * targetReal g (keptReal g n) + logPoly (decay x)
        - (max x 0 - x * targetReal g (rawReal g n) + Real.log (1 + decay x))
      = (logPoly (decay x) - Real.log (1 + decay x)) + x * (targetReal g (rawReal g n) - targetReal g (keptReal g n)) := by
    ring
  rw [hsplit]
  refine (abs_add_le _ _).trans (add_le_add (hlog.trans (by norm_num)) ?_)
  rw [abs_mul, mul_comm]
  exact mul_le_mul_of_nonneg_right htap (abs_nonneg x)

variable {x : FVec Ideal S64x8192x50 .f32} {X : S64x8192x50.Idx → ℝ} (g : FVec Ideal S64x8192 .f32)
variable (hX : ∀ b s n, g (ix2 b s) ≠ ((-1 : ℝ) : EReal) → x (ix3 b s n) = ((X (ix3 b s n) : ℝ) : EReal))
variable (b : Fin 64) (s : Fin 8192) (n : Fin 50)

/-- The problem's own targets: the blurred rows with every weight kept. -/
def rawTarget : FVec Ideal S64x8192x50 .f32 :=
  select (val_main_call5_v1 (F := Ideal) g) (val_main_v33 (F := Ideal) g) (val_main_call5_v2 (F := Ideal))

/-- An element of the problem's own targets: the pad value, or the blurred weight. -/
theorem rawTarget_apply :
    rawTarget g (ix3 b s n) = ((targetReal (g (ix2 b s)) (rawReal (g (ix2 b s)) n) : ℝ) : EReal) := by
  have h : rawTarget g (ix3 b s n) = Scalar.select (val_main_v8 (F := Ideal) g (ix2 b s))
      (val_main_v33 (F := Ideal) g (ix3 b s n)) (Ideal.ofBits .f32 0xBF800000#32) := by
    have hv : val_main_call5_v1 (F := Ideal) g (ix3 b s n) = val_main_v8 (F := Ideal) g (ix2 b s) := by
      pointwise [val_main_call5_v1, val_main_v37]
    rw [← hv]; rfl
  rw [h, valid_apply, raw_apply, word_neg_one, select_target]

/-- The problem's own mask. -/
def rawMask : FVec Ideal S64x8192x50 .f32 :=
  uitofp .f32 (cmpf .une (rawTarget g) (val_main_v39 (F := Ideal)))

/-- An element of the problem's own mask: whether its row is valid. -/
theorem rawMask_apply : rawMask g (ix3 b s n) = ((maskReal (g (ix2 b s)) : ℝ) : EReal) := by
  show ((((Ideal.cmp .une (rawTarget g (ix3 b s n)) (Ideal.ofBits .f32 0xBF800000#32)).toNat : ℝ)) : EReal) = _
  rw [rawTarget_apply, word_neg_one]
  exact mask_target _ (rawReal_nonneg _ _)

/-- The elements of the problem's own sum. -/
def exactTerms (x : FVec Ideal S64x8192x50 .f32) : FVec Ideal S64x8192x50 .f32 :=
  mulf (rawMask g) (addf (subf (val_main_v63 (F := Ideal) x) (mulf x (rawTarget g))) (Host.log1p (val_main_v44 (F := Ideal) x)))

include hX in
/-- An element of the problem's own sum, over the reals. -/
theorem exactTerms_apply :
    exactTerms g x (ix3 b s n) = ((exactTerm (X (ix3 b s n)) (g (ix2 b s)) n : ℝ) : EReal) := by
  show rawMask g (ix3 b s n) * (max (x (ix3 b s n)) (Ideal.ofBits .f32 0x00000000#32) - x (ix3 b s n) * rawTarget g (ix3 b s n)
    + Ideal.log (1 + val_main_v44 (F := Ideal) x (ix3 b s n))) = _
  rw [rawMask_apply]
  by_cases hg : g (ix2 b s) = ((-1 : ℝ) : EReal)
  · unfold exactTerm
    rw [show maskReal (g (ix2 b s)) = 0 from if_pos hg, EReal.coe_zero, zero_mul, zero_mul, EReal.coe_zero]
  have hx := hX b s n hg
  rw [rawTarget_apply, decay_apply hx, hx, Ideal.ofBits_zero_f32, ← EReal.coe_zero, ← EReal.coe_one,
    ← EReal.coe_strictMono.monotone.map_max, ← EReal.coe_add, Ideal.log_coe,
    if_neg (by have := decay_nonneg (X (ix3 b s n)); linarith)]
  simp only [← EReal.coe_mul, ← EReal.coe_add, ← EReal.coe_sub]
  rfl

/-- The elements of the bound. -/
def slackTerms (x : FVec Ideal S64x8192x50 .f32) : FVec Ideal S64x8192x50 .f32 :=
  mulf (rawMask g) (addf (broadcastInDim S64x8192x50 ![] bcast_S_S64x8192x50 (constant S_ .f32 0x391D4952#32))
    (mulf (broadcastInDim S64x8192x50 ![] bcast_S_S64x8192x50 (constant S_ .f32 0x3A0AEFB3#32)) (val_main_v42 (F := Ideal) x)))

include hX in
/-- An element of the bound, over the reals. -/
theorem slackTerms_apply :
    slackTerms g x (ix3 b s n) = ((slackTerm (X (ix3 b s n)) (g (ix2 b s)) : ℝ) : EReal) := by
  show rawMask g (ix3 b s n) * (Ideal.ofBits .f32 0x391D4952#32
    + Ideal.ofBits .f32 0x3A0AEFB3#32 * max (x (ix3 b s n)) (-(x (ix3 b s n)))) = _
  rw [rawMask_apply]
  by_cases hg : g (ix2 b s) = ((-1 : ℝ) : EReal)
  · unfold slackTerm
    rw [show maskReal (g (ix2 b s)) = 0 from if_pos hg, EReal.coe_zero, zero_mul, zero_mul, EReal.coe_zero]
  rw [hX b s n hg, abs_coe, word_slope, word_offset]
  simp only [← EReal.coe_mul, ← EReal.coe_add]
  rfl

/-- The sum of all elements, as the host takes it. -/
theorem hostSum_eq (v : FVec Ideal S64x8192x50 .f32) (i : S_.Idx) :
    Host.reduceAdd v (constant S_ .f32 0x00000000#32) reducesTo_S64x8192x50_S_d0_1_2 h_S_ i
      = ∑ j : S64x8192x50.Idx, (v j : EReal) := by
  have h : Host.reduceAdd v (constant S_ .f32 0x00000000#32) reducesTo_S64x8192x50_S_d0_1_2 h_S_ i
      = Ideal.ofBits .f32 0x00000000#32 + ∑ j : S64x8192x50.Idx, v j :=
    Ideal.hostReduceAdd_total reducesTo_S64x8192x50_S_d0_1_2 (fun b => b.elim0) v _ i
  rw [h, Ideal.ofBits_zero_f32, zero_add]

/-- That sum, of real elements. -/
theorem hostSum_apply {v : FVec Ideal S64x8192x50 .f32} {f : Fin 64 → Fin 8192 → Fin 50 → ℝ}
    (hv : ∀ b s n, v (ix3 b s n) = ((f b s n : ℝ) : EReal)) (i : S_.Idx) :
    Host.reduceAdd v (constant S_ .f32 0x00000000#32) reducesTo_S64x8192x50_S_d0_1_2 h_S_ i
      = ((∑ b, ∑ s, ∑ n, f b s n : ℝ) : EReal) := by
  rw [hostSum_eq, sum_idx3]
  simp only [hv, coe_sum]

/-- The postcondition in terms of those elements. -/
theorem near_eq [Cert.Post_near.Facts] (x : FVec Ideal S64x8192x50 .f32) (out : FVec Ideal S_ .f32) :
    Cert.Post_near.fn (F := Ideal) x g out
      = cmpf .ole (Host.absf (subf out (Host.reduceAdd (exactTerms g x) (constant S_ .f32 0x00000000#32)
          reducesTo_S64x8192x50_S_d0_1_2 h_S_)))
        (Host.reduceAdd (slackTerms g x) (constant S_ .f32 0x00000000#32) reducesTo_S64x8192x50_S_d0_1_2 h_S_) := rfl

/-- The sum of all the bound's elements is infinite if a logit of a valid row is. -/
theorem slack_top (hg : g (ix2 b s) ≠ ((-1 : ℝ) : EReal)) (hx : max (x (ix3 b s n)) (-(x (ix3 b s n))) = ⊤) (i : S_.Idx) :
    Host.reduceAdd (slackTerms g x) (constant S_ .f32 0x00000000#32) reducesTo_S64x8192x50_S_d0_1_2 h_S_ i = (⊤ : EReal) := by
  have helem (b : Fin 64) (s : Fin 8192) (n : Fin 50) : slackTerms g x (ix3 b s n) = ((maskReal (g (ix2 b s)) : ℝ) : EReal)
      * (((5153961 / 34359738368 : ℝ) : EReal) + ((9105331 / 17179869184 : ℝ) : EReal) * max (x (ix3 b s n)) (-(x (ix3 b s n)))) := by
    rw [← rawMask_apply, ← word_slope, ← word_offset]; rfl
  have hnonneg (j : S64x8192x50.Idx) : (0 : EReal) ≤ slackTerms g x j := by
    obtain ⟨b, s, n, rfl⟩ : ∃ (b : Fin 64) (s : Fin 8192) (n : Fin 50), j = ix3 b s n := ⟨j 0, j 1, j 2, eq_ix3 j⟩
    have habs : (0 : EReal) ≤ max (x (ix3 b s n)) (-(x (ix3 b s n))) := by
      rcases le_total (0 : EReal) (x (ix3 b s n)) with h | h
      · exact le_max_of_le_left h
      · exact le_max_of_le_right (EReal.neg_nonneg.mpr h)
    rw [helem]
    exact mul_nonneg (EReal.coe_nonneg.mpr (maskReal_nonneg _))
      (add_nonneg (EReal.coe_nonneg.mpr (by norm_num)) (mul_nonneg (EReal.coe_nonneg.mpr (by norm_num)) habs))
  rw [hostSum_eq]
  refine top_le_iff.mp ?_
  refine le_trans ?_ (Finset.single_le_sum (fun j _ => hnonneg j) (Finset.mem_univ (ix3 b s n)))
  rw [helem, hx, show maskReal (g (ix2 b s)) = 1 from if_neg hg, EReal.coe_one, one_mul,
    EReal.coe_mul_top_of_pos (by norm_num), EReal.coe_add_top]

include hX in
/-- The sum of all lanes' losses satisfies the postcondition, where the valid rows' logits are real. -/
theorem near_holds [Cert.Post_near.Facts] (out : FVec Ideal S_ .f32)
    (hout : ∀ i, out i = ((∑ b : Fin 64, ∑ s : Fin 8192, lane X g b s : ℝ) : EReal)) :
    Cert.Post_near.fn (F := Ideal) x g out = fun _ => 1#1 := by
  rw [near_eq]
  funext i
  show Ideal.cmp .ole (max (out i - Host.reduceAdd (exactTerms g x) (constant S_ .f32 0x00000000#32)
      reducesTo_S64x8192x50_S_d0_1_2 h_S_ i) (-(out i - Host.reduceAdd (exactTerms g x) (constant S_ .f32 0x00000000#32)
      reducesTo_S64x8192x50_S_d0_1_2 h_S_ i)))
    (Host.reduceAdd (slackTerms g x) (constant S_ .f32 0x00000000#32) reducesTo_S64x8192x50_S_d0_1_2 h_S_ i) = _
  rw [hout, hostSum_apply (exactTerms_apply g hX), hostSum_apply (slackTerms_apply g hX), ← EReal.coe_sub, abs_coe]
  unfold Ideal.cmp
  dsimp only
  rw [decide_eq_true]
  · rfl
  rw [EReal.coe_le_coe_iff]
  simp only [← sum_term, ← Finset.sum_sub_distrib]
  refine (Finset.abs_sum_le_sum_abs _ _).trans (Finset.sum_le_sum fun b _ => ?_)
  refine (Finset.abs_sum_le_sum_abs _ _).trans (Finset.sum_le_sum fun s _ => ?_)
  exact (Finset.abs_sum_le_sum_abs _ _).trans (Finset.sum_le_sum fun n _ => term_near _ _ n)

/-- The postcondition, of a result that is the sum of all lanes' losses where the valid rows' logits are real. -/
theorem near_any [Cert.Post_near.Facts] (out : FVec Ideal S_ .f32)
    (hout : (∀ b s n, g (ix2 b s) ≠ ((-1 : ℝ) : EReal) → x (ix3 b s n) = (((x (ix3 b s n)).toReal : ℝ) : EReal)) →
      ∀ i, out i = ((∑ b : Fin 64, ∑ s : Fin 8192, lane (fun j => (x j).toReal) g b s : ℝ) : EReal)) :
    Cert.Post_near.fn (F := Ideal) x g out = fun _ => 1#1 := by
  by_cases h : ∀ b s n, g (ix2 b s) ≠ ((-1 : ℝ) : EReal) → max (x (ix3 b s n)) (-(x (ix3 b s n))) ≠ ⊤
  · exact near_holds g (X := fun j => (x j).toReal) (fun b s n hg => real_of_abs (h b s n hg)) out
      (hout fun b s n hg => real_of_abs (h b s n hg))
  · push Not at h
    obtain ⟨b, s, n, hg, hx⟩ := h
    rw [near_eq]
    funext i
    show Ideal.cmp .ole _ (Host.reduceAdd (slackTerms g x) (constant S_ .f32 0x00000000#32)
      reducesTo_S64x8192x50_S_d0_1_2 h_S_ i) = _
    rw [slack_top g b s n hg hx i]
    unfold Ideal.cmp
    dsimp only
    rw [decide_eq_true le_top]
    rfl

end Cert.Proof

end
-- ==== Proof.Values.lean ====
/-
  The two value claims: the kernel's result is the reference's, and it is near the problem's own.
-/
module

public import proofs.«01_k».proof.Defs
public import proofs.«01_k».proof.Proof.KernelSum
public import proofs.«01_k».proof.Proof.Near

@[expose] public section

set_option maxRecDepth 16384

noncomputable section

namespace Cert.Proof

open Idealize.ShloMosaic Idealize.SL.Sem

/-- The precondition's shapes broadcast as it states. -/
instance finiteFacts : Cert.Pre_finite.Facts where
  bcast_S_S64x8192x50 := Cert.ReferenceIdeal.Gen.bcast_S_S64x8192x50

/-- The postcondition's shapes relate as it states: they are the reference's. -/
instance nearFacts : Cert.Post_near.Facts where
  bcast_S_S64x8192 := Cert.ReferenceIdeal.Gen.bcast_S_S64x8192
  bcast_S64x8192_S64x8192x1_0_1 := Cert.ReferenceIdeal.Gen.bcast_S64x8192_S64x8192x1_0_1
  bcast_S64x8192x1_S64x8192x50_0_1_2 := Cert.ReferenceIdeal.Gen.bcast_S64x8192x1_S64x8192x50_0_1_2
  bcast_S1x1x50_S64x8192x50_0_1_2 := Cert.ReferenceIdeal.Gen.bcast_S1x1x50_S64x8192x50_0_1_2
  bcast_S_S64x8192x50 := Cert.ReferenceIdeal.Gen.bcast_S_S64x8192x50
  slices_S64x8192x50_S64x8192x1_0_0_0 := Cert.ReferenceIdeal.Gen.slices_S64x8192x50_S64x8192x1_0_0_0
  slices_S64x8192x50_S64x8192x2_0_0_1 := Cert.ReferenceIdeal.Gen.slices_S64x8192x50_S64x8192x2_0_0_1
  concatenates_S64x8192x2_S64x8192x50_S64x8192x52_d2 :=
    Cert.ReferenceIdeal.Gen.concatenates_S64x8192x2_S64x8192x50_S64x8192x52_d2
  slices_S64x8192x52_S64x8192x1_0_0_51 := Cert.ReferenceIdeal.Gen.slices_S64x8192x52_S64x8192x1_0_0_51
  slices_S64x8192x52_S64x8192x2_0_0_49 := Cert.ReferenceIdeal.Gen.slices_S64x8192x52_S64x8192x2_0_0_49
  concatenates_S64x8192x52_S64x8192x2_S64x8192x54_d2 :=
    Cert.ReferenceIdeal.Gen.concatenates_S64x8192x52_S64x8192x2_S64x8192x54_d2
  slices_S64x8192x54_S64x8192x50_0_0_0 := Cert.ReferenceIdeal.Gen.slices_S64x8192x54_S64x8192x50_0_0_0
  slices_S64x8192x54_S64x8192x50_0_0_1 := Cert.ReferenceIdeal.Gen.slices_S64x8192x54_S64x8192x50_0_0_1
  slices_S64x8192x54_S64x8192x50_0_0_2 := Cert.ReferenceIdeal.Gen.slices_S64x8192x54_S64x8192x50_0_0_2
  slices_S64x8192x54_S64x8192x50_0_0_3 := Cert.ReferenceIdeal.Gen.slices_S64x8192x54_S64x8192x50_0_0_3
  slices_S64x8192x54_S64x8192x50_0_0_4 := Cert.ReferenceIdeal.Gen.slices_S64x8192x54_S64x8192x50_0_0_4
  reducesTo_S64x8192x50_S_d0_1_2 := Cert.ReferenceIdeal.Gen.reducesTo_S64x8192x50_S_d0_1_2
  h_S_ := Cert.ReferenceIdeal.Gen.h_S_

/-- With real logits, the kernel and the reference end with the same loss. -/
theorem algebraic : Cert.algebraic_KernelIdeal_ReferenceIdeal_pre_finite := by
  intro m ρ m' ρ' hpre hagree
  refine ⟨fun c => result m c, kernel_run (F := Ideal) m ρ, ?_⟩
  refine (θ_run Cert.ReferenceIdeal.defs _ _).mono (fun r h c => ⟨(h c).1.trans ?_, (h c).2⟩)
    (Cert.ReferenceIdeal.Value.run (F := Ideal) m' ρ')
  obtain ⟨X, hX⟩ := finite_real (hpre c)
  refine (Cert.ReferenceIdeal.Read.val_main_v68_eq (F := Ideal) (StableHlo.launchContents m' c)).trans ?_
  funext i
  refine (reference_apply _ (fun b s n _ => (congrFun (hagree c).1 (ix3 b s n)).trans (hX _)) i).trans ?_
  refine Eq.trans ?_ (result_apply m c (fun b s n _ => hX _) i).symm
  rw [← (hagree c).2]

/-- The kernel's loss satisfies the postcondition: the bound is infinite where a logit of a valid row is. -/
theorem near : Cert.holds_KernelIdeal_near := by
  intro m ρ _
  refine (θ_run Cert.KernelIdeal.defs _ _).mono (fun r h c => ⟨(h c).2.1, (h c).2.2, ?_⟩) (kernel_run (F := Ideal) m ρ)
  rw [(h c).1]
  exact near_any _ _ fun hX i => result_apply m c hX i

end Cert.Proof

end
-- ==== Proof.lean ====
/-
  The proof of `Cert.Claim`: the frames of the kernel, its idealization and the reference, the naming of two constants,
  and the two value claims (Proof/Values.lean).
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Values
public import Idealize.ShloMosaic.Adequacy
public import Idealize.ShloMosaic.Lib.Quiescent
public import Idealize.ShloMosaic.Init

@[expose] public section

noncomputable section

namespace Cert.Proof

open Idealize.ShloMosaic Idealize.SL.Sem

/-- The reference runs, leaves its arguments alone, and has no semaphores to leave nonzero. -/
theorem reference_frame : Cert.quiescent_ReferenceIdeal :=
  fun m ρ _ => (θ_run Cert.ReferenceIdeal.defs _ _).mono
    (fun r h => ⟨fun c => (h c).2, sem_eq_zero_of_no_sems (by decide) r.2⟩) (Cert.ReferenceIdeal.Value.run (F := Ideal) m ρ)

/-- Everything the certificate claims. -/
theorem claim : Cert.Claim :=
  ⟨Cert.Kernel.Gen.facts, Cert.KernelIdeal.Gen.facts, Cert.ReferenceIdeal.Gen.facts, finiteFacts, nearFacts,
    fun m ρ _ => Cert.Kernel.Gen.frame m ρ,
    fun m ρ _ => Cert.KernelIdeal.Gen.frame m ρ,
    fun m ρ _ => Cert.KernelIdeal.Gen.frame m ρ,
    reference_frame,
    fun m ρ _ => reference_frame m ρ trivial,
    ⟨IdealRules.named_const.statement Cert.KernelIdeal.κ "neg_log2e" .f32 0xBFB8AA3B#32 ((-((Real.log 2)⁻¹) : ℝ) : EReal) rfl,
      IdealRules.named_const.statement Cert.KernelIdeal.κ "edge_tap" .f32 0x3F496DFE#32 ((27035430751 / 34359738368 : ℝ) : EReal) rfl⟩,
    algebraic,
    near⟩

end Cert.Proof

end
